-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "scale" .f32 0x358E38E4#32 ((5 / 4718592 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_near_reference_pre_finite [hKernelIdeal : Cert.KernelIdeal.Facts] [hPre_finite : Cert.Pre_finite.Facts] [hPost_near_reference : Cert.Post_near_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_near_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v12)) (r.2.mem ((c.tc : Thread Cert.KernelIdeal.nD Cert.KernelIdeal.τ).loc Cert.KernelIdeal.main_v11)) (r.2.mem ((c.tc : Thread Cert.KernelIdeal.nD Cert.KernelIdeal.τ).loc Cert.KernelIdeal.main_v10))) = (fun _ => 1#1))

def Claim : Prop :=
  ∃ (hKernel : Cert.Kernel.Facts) (hKernelIdeal : Cert.KernelIdeal.Facts) (hReferenceIdeal : Cert.ReferenceIdeal.Facts) (hPre_finite : Cert.Pre_finite.Facts) (hPost_near_reference : Cert.Post_near_reference.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ holds_KernelIdeal_near_reference_pre_finite (hKernelIdeal := hKernelIdeal) (hPre_finite := hPre_finite) (hPost_near_reference := hPost_near_reference)
-- ==== Post_near_reference.lean ====
abbrev S8x576x256 : Shape := ⟨3, ![8, 576, 256]⟩
abbrev S1024x256 : Shape := ⟨2, ![1024, 256]⟩
abbrev S_ : Shape := ⟨0, ![]⟩
abbrev S8x576 : Shape := ⟨2, ![8, 576]⟩
abbrev S4608x256 : Shape := ⟨2, ![4608, 256]⟩
abbrev S4608 : Shape := ⟨1, ![4608]⟩
abbrev S4608x1 : Shape := ⟨2, ![4608, 1]⟩
abbrev S1024 : Shape := ⟨1, ![1024]⟩
abbrev S1x1024 : Shape := ⟨2, ![1, 1024]⟩
abbrev S4608x1024 : Shape := ⟨2, ![4608, 1024]⟩
abbrev S256x1024 : Shape := ⟨2, ![256, 1024]⟩

class Facts : Prop where
  shapeCasts_S8x576x256_S4608x256 : S8x576x256.ShapeCasts S4608x256
  reducesTo_S4608x256_S4608_d1 : S4608x256.ReducesTo [1] S4608
  h_S_ : 0 < S_.numel
  bcast_S4608_S4608x1_0 : S4608.BroadcastsInDim S4608x1 (![0] : Fin 1 → Fin S4608x1.rank)
  reducesTo_S1024x256_S1024_d1 : S1024x256.ReducesTo [1] S1024
  bcast_S1024_S1x1024_1 : S1024.BroadcastsInDim S1x1024 (![1] : Fin 1 → Fin S1x1024.rank)
  bcast_S4608x1_S4608x1024_0_1 : S4608x1.BroadcastsInDim S4608x1024 (![0, 1] : Fin 2 → Fin S4608x1024.rank)
  bcast_S1x1024_S4608x1024_0_1 : S1x1024.BroadcastsInDim S4608x1024 (![0, 1] : Fin 2 → Fin S4608x1024.rank)
  bcast_S_S4608x256 : S_.BroadcastsInDim S4608x256 (![] : Fin 0 → Fin S4608x256.rank)
  transposes_S1024x256_S256x1024_1_0 : S1024x256.Transposes [1, 0] S256x1024
  bcast_S_S4608x1024 : S_.BroadcastsInDim S4608x1024 (![] : Fin 0 → Fin S4608x1024.rank)
  reducesTo_S4608x1024_S4608_d1 : S4608x1024.ReducesTo [1] S4608
  bcast_S_S4608 : S_.BroadcastsInDim S4608 (![] : Fin 0 → Fin S4608.rank)
  bcast_S_S4608x1 : S_.BroadcastsInDim S4608x1 (![] : Fin 0 → Fin S4608x1.rank)
  bcast_S4608x1_S4608x256_0_1 : S4608x1.BroadcastsInDim S4608x256 (![0, 1] : Fin 2 → Fin S4608x256.rank)
  shapeCasts_S4608x256_S8x576x256 : S4608x256.ShapeCasts S8x576x256
  bcast_S_S8x576x256 : S_.BroadcastsInDim S8x576x256 (![] : Fin 0 → Fin S8x576x256.rank)
  dot_S4608x256_S256x1024_S4608x1024_1_0_0_1_n_n_wf : DotDims.WF S4608x256 S256x1024 S4608x1024 [1] [0] [0] [1] [] []
  gather_S1024x256_S4608x1_S4608x256_1_0_n_n_0_1_1256_wf : GatherDims.WF S1024x256 S4608x1 S4608x256 [1] [0] [] [0] [] 1 ![1, 256]

variable [Facts]

variable {F : FTy → Type} [FloatOps F]
def dot_S4608x256_S256x1024_S4608x1024_1_0_0_1_n_n : DotDims S4608x256 S256x1024 S4608x1024 where
  lhsContracting := [1]
  rhsContracting := [0]
  lhsNonContracting := [0]
  rhsNonContracting := [1]
  lhsBatch := []
  rhsBatch := []
  wf := dot_S4608x256_S256x1024_S4608x1024_1_0_0_1_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S1024x256_S4608x1_S4608x256_1_0_n_n_0_1_1256 : GatherDims S1024x256 S4608x1 S4608x256 where
  offsetDims := [1]
  collapsedSliceDims := [0]
  operandBatchingDims := []
  startIndicesBatchingDims := []
  startIndexMap := [0]
  indexVectorDim := 1
  sliceSizes := ![1, 256]
  wf := gather_S1024x256_S4608x1_S4608x256_1_0_n_n_0_1_1256_wf

def fn_argmin {F : FTy → Type} [FloatOps F] (arg0 : FVec F S4608x1024 .f32) : IVec S4608 32 :=
  let v0 : IVec S4608x1024 32 := iotaInDim S4608x1024 32 1
  let cst : FVec F S_ .f32 := constant S_ .f32 0x7F800000#32
  let c : IVec S_ 32 := constantI S_ 32 0#32
  let v1_0 : FVec F S4608 .f32 := (fun x y u v j => (Host.argReduce reducer_argmin_f32_i32 x y u v reducesTo_S4608x1024_S4608_d1 h_S_ j).1) arg0 v0 cst c
  let v1_1 : IVec S4608 32 := (fun x y u v j => (Host.argReduce reducer_argmin_f32_i32 x y u v reducesTo_S4608x1024_S4608_d1 h_S_ j).2) arg0 v0 cst c
  v1_1

def fn_norm {F : FTy → Type} [FloatOps F] (arg0 : FVec F S4608x256 .f32) : FVec F S4608x1 .f32 :=
  let v0 : FVec F S4608x256 .f32 := mulf arg0 arg0
  let cst : FVec F S_ .f32 := constant S_ .f32 0x00000000#32
  let v1 : FVec F S4608 .f32 := (fun x v => Host.reduceAdd x v reducesTo_S4608x256_S4608_d1 h_S_) v0 cst
  let v2 : FVec F S4608x1 .f32 := broadcastInDim S4608x1 ![0] bcast_S4608_S4608x1_0 v1
  let v3 : FVec F S4608x1 .f32 := Host.sqrt v2
  v3

def fn_part2 {F : FTy → Type} [FloatOps F] (main_v38 : FVec F S8x576x256 .f32) (main_v39 : FVec F S8x576x256 .f32) : IVec S8x576x256 1 :=
  let main_v40 : IVec S8x576x256 1 := cmpf .ole main_v38 main_v39
  main_v40

def fn_part1 {F : FTy → Type} [FloatOps F] (main_arg1 : FVec F S1024x256 .f32) (main_arg2 : FVec F S8x576x256 .f32) (main_v0 : FVec F S4608x256 .f32) (main_v18 : IVec S4608 32) (main_c : IVec S_ 32) : IVec S8x576x256 1 :=
  let main_v19 : IVec S4608 32 := broadcastInDim S4608 ![] bcast_S_S4608 main_c
  let main_v20 : IVec S4608 1 := cmpi .slt main_v18 main_v19
  let main_c_3 : IVec S_ 32 := constantI S_ 32 1024#32
  let main_v21 : IVec S4608 32 := broadcastInDim S4608 ![] bcast_S_S4608 main_c_3
  let main_v22 : IVec S4608 32 := addi main_v18 main_v21
  let main_v23 : IVec S4608 32 := select main_v20 main_v22 main_v18
  let main_v24 : IVec S4608x1 32 := broadcastInDim S4608x1 ![0] bcast_S4608_S4608x1_0 main_v23
  let main_v25 : FVec F S4608x256 .f32 := (fun x i => Host.gather gather_S1024x256_S4608x1_S4608x256_1_0_n_n_0_1_1256 x i) main_arg1 main_v24
  let main_v26 : FVec F S4608x256 .f32 := subf main_v25 main_v0
  let main_v27 : FVec F S4608x1 .f32 := fn_norm (F := F) main_v26
  let main_v28 : FVec F S4608x1 .f32 := fn_norm (F := F) main_v26
  let main_cst_4 : FVec F S_ .f32 := constant S_ .f32 0x322BCC77#32
  let main_v29 : FVec F S4608x1 .f32 := broadcastInDim S4608x1 ![] bcast_S_S4608x1 main_cst_4
  let main_v30 : FVec F S4608x1 .f32 := addf main_v28 main_v29
  let main_v31 : FVec F S4608x256 .f32 := broadcastInDim S4608x256 ![0, 1] bcast_S4608x1_S4608x256_0_1 main_v30
  let main_v32 : FVec F S4608x256 .f32 := Host.divf main_v26 main_v31
  let main_v33 : FVec F S4608x256 .f32 := broadcastInDim S4608x256 ![0, 1] bcast_S4608x1_S4608x256_0_1 main_v27
  let main_v34 : FVec F S4608x256 .f32 := mulf main_v33 main_v32
  let main_v35 : FVec F S4608x256 .f32 := addf main_v0 main_v34
  let main_v36 : FVec F S8x576x256 .f32 := shapeCast S8x576x256 main_v35 shapeCasts_S4608x256_S8x576x256
  let main_v37 : FVec F S8x576x256 .f32 := subf main_arg2 main_v36
  let main_v38 : FVec F S8x576x256 .f32 := Host.absf main_v37
  let main_cst_5 : FVec F S_ .f32 := constant S_ .f32 0x322BCC77#32
  let main_v39 : FVec F S8x576x256 .f32 := broadcastInDim S8x576x256 ![] bcast_S_S8x576x256 main_cst_5
  fn_part2 (F := F) main_v38 main_v39

def fn {F : FTy → Type} [FloatOps F] (main_arg0 : FVec F S8x576x256 .f32) (main_arg1 : FVec F S1024x256 .f32) (main_arg2 : FVec F S8x576x256 .f32) (main_arg3 : FVec F S_ .f32) (main_arg4 : IVec S8x576 32) : IVec S8x576x256 1 :=
  let main_v0 : FVec F S4608x256 .f32 := shapeCast S4608x256 main_arg0 shapeCasts_S8x576x256_S4608x256
  let main_v1 : FVec F S4608x256 .f32 := mulf main_v0 main_v0
  let main_cst : FVec F S_ .f32 := constant S_ .f32 0x00000000#32
  let main_v2 : FVec F S4608 .f32 := (fun x v => Host.reduceAdd x v reducesTo_S4608x256_S4608_d1 h_S_) main_v1 main_cst
  let main_v3 : FVec F S4608x1 .f32 := broadcastInDim S4608x1 ![0] bcast_S4608_S4608x1_0 main_v2
  let main_v4 : FVec F S1024x256 .f32 := mulf main_arg1 main_arg1
  let main_cst_0 : FVec F S_ .f32 := constant S_ .f32 0x00000000#32
  let main_v5 : FVec F S1024 .f32 := (fun x v => Host.reduceAdd x v reducesTo_S1024x256_S1024_d1 h_S_) main_v4 main_cst_0
  let main_v6 : FVec F S1x1024 .f32 := broadcastInDim S1x1024 ![1] bcast_S1024_S1x1024_1 main_v5
  let main_v7 : FVec F S4608x1024 .f32 := broadcastInDim S4608x1024 ![0, 1] bcast_S4608x1_S4608x1024_0_1 main_v3
  let main_v8 : FVec F S4608x1024 .f32 := broadcastInDim S4608x1024 ![0, 1] bcast_S1x1024_S4608x1024_0_1 main_v6
  let main_v9 : FVec F S4608x1024 .f32 := addf main_v7 main_v8
  let main_cst_1 : FVec F S_ .f32 := constant S_ .f32 0x40000000#32
  let main_v10 : FVec F S4608x256 .f32 := broadcastInDim S4608x256 ![] bcast_S_S4608x256 main_cst_1
  let main_v11 : FVec F S4608x256 .f32 := mulf main_v10 main_v0
  let main_v12 : FVec F S256x1024 .f32 := (transpose S256x1024 [1, 0] · transposes_S1024x256_S256x1024_1_0) main_arg1
  let main_v13 : FVec F S4608x1024 .f32 := (fun l r => Host.dotGeneral dot_S4608x256_S256x1024_S4608x1024_1_0_0_1_n_n none l r) main_v11 main_v12
  let main_v14 : FVec F S4608x1024 .f32 := subf main_v9 main_v13
  let main_cst_2 : FVec F S_ .f32 := constant S_ .f32 0x00000000#32
  let main_v15 : FVec F S4608x1024 .f32 := broadcastInDim S4608x1024 ![] bcast_S_S4608x1024 main_cst_2
  let main_v16 : FVec F S4608x1024 .f32 := maximumf main_v14 main_v15
  let main_v17 : FVec F S4608x1024 .f32 := Host.sqrt main_v16
  let main_v18 : IVec S4608 32 := fn_argmin (F := F) main_v17
  let main_c : IVec S_ 32 := constantI S_ 32 0#32
  fn_part1 (F := F) main_arg1 main_arg2 main_v0 main_v18 main_c
-- ==== Pre_finite.lean ====
abbrev S8x576x256 : Shape := ⟨3, ![8, 576, 256]⟩
abbrev S1024x256 : Shape := ⟨2, ![1024, 256]⟩
abbrev S_ : Shape := ⟨0, ![]⟩

class Facts : Prop where
  bcast_S_S8x576x256 : S_.BroadcastsInDim S8x576x256 (![] : Fin 0 → Fin S8x576x256.rank)
  bcast_S_S1024x256 : S_.BroadcastsInDim S1024x256 (![] : Fin 0 → Fin S1024x256.rank)

variable [Facts]

def fn {F : FTy → Type} [FloatOps F] (main_arg0 : FVec F S8x576x256 .f32) (main_arg1 : FVec F S1024x256 .f32) : IVec S8x576x256 1 × IVec S1024x256 1 :=
  let main_v0 : FVec F S8x576x256 .f32 := Host.absf main_arg0
  let main_cst : FVec F S_ .f32 := constant S_ .f32 0x7F800000#32
  let main_v1 : FVec F S8x576x256 .f32 := broadcastInDim S8x576x256 ![] bcast_S_S8x576x256 main_cst
  let main_v2 : IVec S8x576x256 1 := cmpf .olt main_v0 main_v1
  let main_v3 : FVec F S1024x256 .f32 := Host.absf main_arg1
  let main_cst_0 : FVec F S_ .f32 := constant S_ .f32 0x7F800000#32
  let main_v4 : FVec F S1024x256 .f32 := broadcastInDim S1024x256 ![] bcast_S_S1024x256 main_cst_0
  let main_v5 : IVec S1024x256 1 := cmpf .olt main_v3 main_v4
  (main_v2, main_v5)
-- ==== Kernel.lean ====
abbrev S8x576x256 : Shape := ⟨3, ![8, 576, 256]⟩
abbrev S1024x256 : Shape := ⟨2, ![1024, 256]⟩
abbrev S4608x256 : Shape := ⟨2, ![4608, 256]⟩
abbrev S_ : Shape := ⟨0, ![]⟩
abbrev S4608 : Shape := ⟨1, ![4608]⟩
abbrev S4608x1 : Shape := ⟨2, ![4608, 1]⟩
abbrev S1024 : Shape := ⟨1, ![1024]⟩
abbrev S1x1024 : Shape := ⟨2, ![1, 1024]⟩
abbrev S4x1x1152 : Shape := ⟨3, ![4, 1, 1152]⟩
abbrev S1x1 : Shape := ⟨2, ![1, 1]⟩
abbrev S1152x256 : Shape := ⟨2, ![1152, 256]⟩
abbrev S1152x1 : Shape := ⟨2, ![1152, 1]⟩
abbrev S1x1x1152 : Shape := ⟨3, ![1, 1, 1152]⟩
abbrev S256x1024 : Shape := ⟨2, ![256, 1024]⟩
abbrev S1152x1024 : Shape := ⟨2, ![1152, 1024]⟩
abbrev S1152 : Shape := ⟨1, ![1152]⟩
abbrev S1x1152x1 : Shape := ⟨3, ![1, 1152, 1]⟩
abbrev S1 : Shape := ⟨1, ![1]⟩
abbrev S1x1x1 : Shape := ⟨3, ![1, 1, 1]⟩
abbrev S8x576 : Shape := ⟨2, ![8, 576]⟩

abbrev nBuf : Space → Nat
  | .hbm => 19
  | .vmem => 11
  | .smem => 1
  | _ => 0

abbrev bufTy : (tb : Table) → Fin (tcTables nBuf tb) → BufTy
  | .hbm, ⟨0, _⟩ => ⟨S8x576x256, .f32⟩
  | .hbm, ⟨1, _⟩ => ⟨S1024x256, .f32⟩
  | .hbm, ⟨2, _⟩ => ⟨S4608x256, .f32⟩
  | .hbm, ⟨3, _⟩ => ⟨S4608x256, .f32⟩
  | .hbm, ⟨4, _⟩ => ⟨S_, .f32⟩
  | .hbm, ⟨5, _⟩ => ⟨S4608, .f32⟩
  | .hbm, ⟨6, _⟩ => ⟨S4608x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S1024x256, .bf16⟩
  | .hbm, ⟨12, _⟩ => ⟨S4608x256, .f32⟩
  | .hbm, ⟨13, _⟩ => ⟨S4x1x1152, .i32⟩
  | .hbm, ⟨14, _⟩ => ⟨S1x1, .f32⟩
  | .hbm, ⟨15, _⟩ => ⟨S4608, .i32⟩
  | .hbm, ⟨16, _⟩ => ⟨S8x576, .i32⟩
  | .hbm, ⟨17, _⟩ => ⟨S_, .f32⟩
  | .hbm, ⟨18, _⟩ => ⟨S8x576x256, .f32⟩
  | .local _ .vmem, ⟨0, _⟩ => ⟨S1152x256, .f32⟩
  | .local _ .vmem, ⟨1, _⟩ => ⟨S1152x256, .f32⟩
  | .local _ .vmem, ⟨2, _⟩ => ⟨S1024x256, .f32⟩
  | .local _ .vmem, ⟨3, _⟩ => ⟨S1024x256, .bf16⟩
  | .local _ .vmem, ⟨4, _⟩ => ⟨S1152x1, .f32⟩
  | .local _ .vmem, ⟨5, _⟩ => ⟨S1152x1, .f32⟩
  | .local _ .vmem, ⟨6, _⟩ => ⟨S1x1024, .f32⟩
  | .local _ .vmem, ⟨7, _⟩ => ⟨S1152x256, .f32⟩
  | .local _ .vmem, ⟨8, _⟩ => ⟨S1152x256, .f32⟩
  | .local _ .vmem, ⟨9, _⟩ => ⟨S1x1x1152, .i32⟩
  | .local _ .vmem, ⟨10, _⟩ => ⟨S1x1x1152, .i32⟩
  | .local _ .smem, ⟨0, _⟩ => ⟨S1x1, .f32⟩
  | _, _ => ⟨S8x576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1152x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1152x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1152x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1152 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "scale" => some ((5 / 4718592 : ℝ) : EReal)
  | _ => none
-- ==== ReferenceIdeal.lean ====
abbrev S8x576x256 : Shape := ⟨3, ![8, 576, 256]⟩
abbrev S1024x256 : Shape := ⟨2, ![1024, 256]⟩
abbrev S4608x256 : Shape := ⟨2, ![4608, 256]⟩
abbrev S_ : Shape := ⟨0, ![]⟩
abbrev S4608 : Shape := ⟨1, ![4608]⟩
abbrev S4608x1 : Shape := ⟨2, ![4608, 1]⟩
abbrev S1024 : Shape := ⟨1, ![1024]⟩
abbrev S1x1024 : Shape := ⟨2, ![1, 1024]⟩
abbrev S4608x1024 : Shape := ⟨2, ![4608, 1024]⟩
abbrev S256x1024 : Shape := ⟨2, ![256, 1024]⟩
abbrev S8x576 : Shape := ⟨2, ![8, 576]⟩

abbrev nBuf : Space → Nat
  | .hbm => 78
  | .vmem => 0
  | .smem => 0
  | _ => 0

abbrev bufTy : (tb : Table) → Fin (tcTables nBuf tb) → BufTy
  | .hbm, ⟨0, _⟩ => ⟨S8x576x256, .f32⟩
  | .hbm, ⟨1, _⟩ => ⟨S1024x256, .f32⟩
  | .hbm, ⟨2, _⟩ => ⟨S4608x256, .f32⟩
  | .hbm, ⟨3, _⟩ => ⟨S4608x256, .f32⟩
  | .hbm, ⟨4, _⟩ => ⟨S_, .f32⟩
  | .hbm, ⟨5, _⟩ => ⟨S4608, .f32⟩
  | .hbm, ⟨6, _⟩ => ⟨S4608x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S4608x1024, .f32⟩
  | .hbm, ⟨12, _⟩ => ⟨S4608x1024, .f32⟩
  | .hbm, ⟨13, _⟩ => ⟨S4608x1024, .f32⟩
  | .hbm, ⟨14, _⟩ => ⟨S_, .f32⟩
  | .hbm, ⟨15, _⟩ => ⟨S4608x256, .f32⟩
  | .hbm, ⟨16, _⟩ => ⟨S4608x256, .f32⟩
  | .hbm, ⟨17, _⟩ => ⟨S256x1024, .f32⟩
  | .hbm, ⟨18, _⟩ => ⟨S4608x1024, .f32⟩
  | .hbm, ⟨19, _⟩ => ⟨S4608x1024, .f32⟩
  | .hbm, ⟨20, _⟩ => ⟨S_, .f32⟩
  | .hbm, ⟨21, _⟩ => ⟨S4608x1024, .f32⟩
  | .hbm, ⟨22, _⟩ => ⟨S4608x1024, .f32⟩
  | .hbm, ⟨23, _⟩ => ⟨S4608x1024, .f32⟩
  | .hbm, ⟨24, _⟩ => ⟨S4608x1024, .i32⟩
  | .hbm, ⟨25, _⟩ => ⟨S_, .f32⟩
  | .hbm, ⟨26, _⟩ => ⟨S_, .i32⟩
  | .hbm, ⟨27, _⟩ => ⟨S4608, .f32⟩
  | .hbm, ⟨28, _⟩ => ⟨S4608, .i32⟩
  | .hbm, ⟨29, _⟩ => ⟨S_, .i32⟩
  | .hbm, ⟨30, _⟩ => ⟨S4608, .i32⟩
  | .hbm, ⟨31, _⟩ => ⟨S4608, .i1⟩
  | .hbm, ⟨32, _⟩ => ⟨S_, .i32⟩
  | .hbm, ⟨33, _⟩ => ⟨S4608, .i32⟩
  | .hbm, ⟨34, _⟩ => ⟨S4608, .i32⟩
  | .hbm, ⟨35, _⟩ => ⟨S4608, .i32⟩
  | .hbm, ⟨36, _⟩ => ⟨S4608x1, .i32⟩
  | .hbm, ⟨37, _⟩ => ⟨S4608x256, .f32⟩
  | .hbm, ⟨38, _⟩ => ⟨S4608x256, .f32⟩
  | .hbm, ⟨39, _⟩ => ⟨S4608x256, .f32⟩
  | .hbm, ⟨40, _⟩ => ⟨S_, .f32⟩
  | .hbm, ⟨41, _⟩ => ⟨S4608, .f32⟩
  | .hbm, ⟨42, _⟩ => ⟨S4608x1, .f32⟩
  | .hbm, ⟨43, _⟩ => ⟨S4608x1, .f32⟩
  | .hbm, ⟨44, _⟩ => ⟨S4608x256, .f32⟩
  | .hbm, ⟨45, _⟩ => ⟨S_, .f32⟩
  | .hbm, ⟨46, _⟩ => ⟨S4608, .f32⟩
  | .hbm, ⟨47, _⟩ => ⟨S4608x1, .f32⟩
  | .hbm, ⟨48, _⟩ => ⟨S4608x1, .f32⟩
  | .hbm, ⟨49, _⟩ => ⟨S_, .f32⟩
  | .hbm, ⟨50, _⟩ => ⟨S4608x1, .f32⟩
  | .hbm, ⟨51, _⟩ => ⟨S4608x1, .i1⟩
  | .hbm, ⟨52, _⟩ => ⟨S_, .f32⟩
  | .hbm, ⟨53, _⟩ => ⟨S_, .f32⟩
  | .hbm, ⟨54, _⟩ => ⟨S4608x1, .f32⟩
  | .hbm, ⟨55, _⟩ => ⟨S4608x1, .f32⟩
  | .hbm, ⟨56, _⟩ => ⟨S4608x256, .f32⟩
  | .hbm, ⟨57, _⟩ => ⟨S4608x256, .f32⟩
  | .hbm, ⟨58, _⟩ => ⟨S4608x256, .f32⟩
  | .hbm, ⟨59, _⟩ => ⟨S4608x256, .f32⟩
  | .hbm, ⟨60, _⟩ => ⟨S4608x256, .f32⟩
  | .hbm, ⟨61, _⟩ => ⟨S4608x256, .f32⟩
  | .hbm, ⟨62, _⟩ => ⟨S4608x256, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S4608x256, .f32⟩
  | .hbm, ⟨68, _⟩ => ⟨S4608x256, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8x576x256, .f32⟩
  | .hbm, ⟨77, _⟩ => ⟨S8x576, .i32⟩
  | _, _ => ⟨S8x576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_v0 : Ref sig .tc := ⟨.hbm, 39, rfl⟩
abbrev main_call1_cst : Ref sig .tc := ⟨.hbm, 40, rfl⟩
abbrev main_call1_v1 : Ref sig .tc := ⟨.hbm, 41, rfl⟩
abbrev main_call1_v2 : Ref sig .tc := ⟨.hbm, 42, rfl⟩
abbrev main_v27 : Ref sig .tc := ⟨.hbm, 43, rfl⟩
abbrev main_call2_v0 : Ref sig .tc := ⟨.hbm, 44, rfl⟩
abbrev main_call2_cst : Ref sig .tc := ⟨.hbm, 45, rfl⟩
abbrev main_call2_v1 : Ref sig .tc := ⟨.hbm, 46, rfl⟩
abbrev main_call2_v2 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_call3_v0 : Ref sig .tc := ⟨.hbm, 53, rfl⟩
abbrev main_call3_v1 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_cst_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== Proof.RefTerms.lean ====
/- The reference's results as functions of its two arguments, step by step, in the host operations of the reference program:
   the flattened input, the distances, the index of the nearest code, the gathered codes, the difference and its norm, the
   quantised rows and the loss. -/
module

public import proofs.«01_k».proof.Proof.Gen.ReferenceIdeal

@[expose] public section

noncomputable section

namespace Cert.ReferenceIdeal.Terms

open Cert.ReferenceIdeal Cert.ReferenceIdeal.Gen Idealize.ShloMosaic

variable {F : FTy → Type} [FloatOps F]

/-- The input as 4608 rows of 256. -/
def flat (z : FVec F S8x576x256 .f32) : FVec F S4608x256 .f32 :=
  shapeCast S4608x256 z shapeCasts_S8x576x256_S4608x256

/-- Each row's sum of squares. -/
def rowSq (x : FVec F S4608x256 .f32) : FVec F S4608 .f32 :=
  Host.reduceAdd (mulf x x) (constant S_ .f32 0x00000000#32) reducesTo_S4608x256_S4608_d1 h_S_

/-- Each code's sum of squares. -/
def codeSq (w : FVec F S1024x256 .f32) : FVec F S1024 .f32 :=
  Host.reduceAdd (mulf w w) (constant S_ .f32 0x00000000#32) reducesTo_S1024x256_S1024_d1 h_S_

/-- The distance of every row to every code. -/
def dist (x : FVec F S4608x256 .f32) (w : FVec F S1024x256 .f32) : FVec F S4608x1024 .f32 :=
  Host.sqrt (maximumf
    (subf
      (addf
        (broadcastInDim S4608x1024 ![0, 1] bcast_S4608x1_S4608x1024_0_1 (broadcastInDim S4608x1 ![0] bcast_S4608_S4608x1_0 (rowSq x)))
        (broadcastInDim S4608x1024 ![0, 1] bcast_S1x1024_S4608x1024_0_1 (broadcastInDim S1x1024 ![1] bcast_S1024_S1x1024_1 (codeSq w))))
      (Host.dotGeneral dot_S4608x256_S256x1024_S4608x1024_1_0_0_1_n_n none
        (mulf (broadcastInDim S4608x256 ![] bcast_S_S4608x256 (constant S_ .f32 0x40000000#32)) x)
        (transpose S256x1024 [1, 0] w transposes_S1024x256_S256x1024_1_0)))
    (broadcastInDim S4608x1024 ![] bcast_S_S4608x1024 (constant S_ .f32 0x00000000#32)))

/-- The index of the smallest entry of each row, the first where several are smallest. -/
def argmin (d : FVec F S4608x1024 .f32) : IVec S4608 32 := fun j =>
  (Host.argReduce reducer_argmin_f32_i32 d (iotaInDim S4608x1024 32 1) (constant S_ .f32 0x7F800000#32) (constantI S_ 32 0#32)
    reducesTo_S4608x1024_S4608_d1 h_S_ j).2

/-- The rows of `w` that the indices `i` name, a negative index counted from the end. -/
def take (w : FVec F S1024x256 .f32) (i : IVec S4608 32) : FVec F S4608x256 .f32 :=
  Host.gather gather_S1024x256_S4608x1_S4608x256_1_0_n_n_0_1_1256 w
    (broadcastInDim S4608x1 ![0] bcast_S4608_S4608x1_0
      (select (cmpi .slt i (broadcastInDim S4608 ![] bcast_S_S4608 (constantI S_ 32 0#32)))
        (addi i (broadcastInDim S4608 ![] bcast_S_S4608 (constantI S_ 32 1024#32))) i))

/-- The code of each row: the one at the index of the smallest distance. -/
def code (x : FVec F S4608x256 .f32) (w : FVec F S1024x256 .f32) : FVec F S4608x256 .f32 := take w (argmin (dist x w))

/-- Each row's norm, as a column. -/
def norm (d : FVec F S4608x256 .f32) : FVec F S4608x1 .f32 :=
  Host.sqrt (broadcastInDim S4608x1 ![0] bcast_S4608_S4608x1_0 (rowSq d))

/-- The norms, with 1 where the norm is 0. -/
def normOrOne (d : FVec F S4608x256 .f32) : FVec F S4608x1 .f32 :=
  select (cmpf .oeq (norm d) (broadcastInDim S4608x1 ![] bcast_S_S4608x1 (constant S_ .f32 0x00000000#32)))
    (broadcastInDim S4608x1 ![] bcast_S_S4608x1 (constant S_ .f32 0x3F800000#32)) (norm d)

/-- The row moved by its difference's norm along the difference's direction, the norm divided out being `n`. -/
def moved (x d : FVec F S4608x256 .f32) (n : FVec F S4608x1 .f32) : FVec F S4608x256 .f32 :=
  addf x (mulf (broadcastInDim S4608x256 ![0, 1] bcast_S4608x1_S4608x256_0_1 (norm d))
    (Host.divf d (broadcastInDim S4608x256 ![0, 1] bcast_S4608x1_S4608x256_0_1 n)))

/-- The mean square of an array of 4608 rows of 256. -/
def meanSq (d : FVec F S4608x256 .f32) : FVec F S_ .f32 :=
  Host.divf (Host.reduceAdd (mulf d d) (constant S_ .f32 0x00000000#32) reducesTo_S4608x256_S_d0_1 h_S_)
    (constant S_ .f32 0x49900000#32)

/-- Result 1: the quantised rows in the input's shape. -/
def out0 (z : FVec F S8x576x256 .f32) (w : FVec F S1024x256 .f32) : FVec F S8x576x256 .f32 :=
  shapeCast S8x576x256 (moved (flat z) (subf (code (flat z) w) (flat z)) (normOrOne (subf (code (flat z) w) (flat z))))
    shapeCasts_S4608x256_S8x576x256

/-- Result 2: the codebook loss plus a quarter of the commitment loss. -/
def out1 (z : FVec F S8x576x256 .f32) (w : FVec F S1024x256 .f32) : FVec F S_ .f32 :=
  addf (meanSq (subf (code (flat z) w) (flat z)))
    (mulf (constant S_ .f32 0x3E800000#32) (meanSq (subf (flat z) (code (flat z) w))))

/-- Result 3: the indices in the input's leading shape. -/
def out2 (z : FVec F S8x576x256 .f32) (w : FVec F S1024x256 .f32) : IVec S8x576 32 :=
  shapeCast S8x576 (argmin (dist (flat z) w)) shapeCasts_S4608_S8x576

end Cert.ReferenceIdeal.Terms
-- ==== Proof.RefRun.lean ====
/- The reference program's run: its operations in order, in five stages (the distances; the indices; the codes and the
   differences; the quantised rows; the loss and the results' shapes), and its three results as the functions of its
   arguments that Proof/RefTerms.lean defines. -/
module

public import proofs.«01_k».proof.Proof.RefTerms
public import Idealize.ShloMosaic.Lib.StableHlo.Run
public import Idealize.ShloMosaic.Lib.Pipeline.Frame
public import Idealize.ShloMosaic.Lib.Quiescent

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Stage 1: the rows and their distances. -/
abbrev ops1 : List (HloOp τ sig (Elt F)) :=
  [ reshape main_arg0 main_v0 (rfl : (.f32 : EltTy) = .f32) shapeCasts_S8x576x256_S4608x256,
    binary main_v0 main_v0 main_v1 (mulf : (⟨S4608x256, .f32⟩ : BufTy).Contents (Elt F) → (⟨S4608x256, .f32⟩ : BufTy).Contents (Elt F) → (⟨S4608x256, .f32⟩ : BufTy).Contents (Elt F)),
    nullary main_cst (constant S_ .f32 0x00000000#32),
    binary main_v1 main_cst main_v2 ((fun x v => Host.reduceAdd x v reducesTo_S4608x256_S4608_d1 h_S_) : (⟨S4608x256, .f32⟩ : BufTy).Contents (Elt F) → (⟨S_, .f32⟩ : BufTy).Contents (Elt F) → (⟨S4608, .f32⟩ : BufTy).Contents (Elt F)),
    unary main_v2 main_v3 (broadcastInDim S4608x1 ![0] bcast_S4608_S4608x1_0 : (⟨S4608, .f32⟩ : BufTy).Contents (Elt F) → (⟨S4608x1, .f32⟩ : BufTy).Contents (Elt F)),
    binary main_arg1 main_arg1 main_v4 (mulf : (⟨S1024x256, .f32⟩ : BufTy).Contents (Elt F) → (⟨S1024x256, .f32⟩ : BufTy).Contents (Elt F) → (⟨S1024x256, .f32⟩ : BufTy).Contents (Elt F)),
    nullary main_cst_0 (constant S_ .f32 0x00000000#32),
    binary main_v4 main_cst_0 main_v5 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v5 main_v6 (broadcastInDim S1x1024 ![1] bcast_S1024_S1x1024_1 : (⟨S1024, .f32⟩ : BufTy).Contents (Elt F) → (⟨S1x1024, .f32⟩ : BufTy).Contents (Elt F)),
    unary main_v3 main_v7 (broadcastInDim S4608x1024 ![0, 1] bcast_S4608x1_S4608x1024_0_1 : (⟨S4608x1, .f32⟩ : BufTy).Contents (Elt F) → (⟨S4608x1024, .f32⟩ : BufTy).Contents (Elt F)),
    unary main_v6 main_v8 (broadcastInDim S4608x1024 ![0, 1] bcast_S1x1024_S4608x1024_0_1 : (⟨S1x1024, .f32⟩ : BufTy).Contents (Elt F) → (⟨S4608x1024, .f32⟩ : BufTy).Contents (Elt F)),
    binary main_v7 main_v8 main_v9 (addf : (⟨S4608x1024, .f32⟩ : BufTy).Contents (Elt F) → (⟨S4608x1024, .f32⟩ : BufTy).Contents (Elt F) → (⟨S4608x1024, .f32⟩ : BufTy).Contents (Elt F)),
    nullary main_cst_1 (constant S_ .f32 0x40000000#32),
    unary main_cst_1 main_v10 (broadcastInDim S4608x256 ![] bcast_S_S4608x256 : (⟨S_, .f32⟩ : BufTy).Contents (Elt F) → (⟨S4608x256, .f32⟩ : BufTy).Contents (Elt F)),
    binary main_v10 main_v0 main_v11 (mulf : (⟨S4608x256, .f32⟩ : BufTy).Contents (Elt F) → (⟨S4608x256, .f32⟩ : BufTy).Contents (Elt F) → (⟨S4608x256, .f32⟩ : BufTy).Contents (Elt F)),
    unary main_arg1 main_v12 ((transpose S256x1024 [1, 0] · transposes_S1024x256_S256x1024_1_0) : (⟨S1024x256, .f32⟩ : BufTy).Contents (Elt F) → (⟨S256x1024, .f32⟩ : BufTy).Contents (Elt F)),
    binary main_v11 main_v12 main_v13 ((fun l r => Host.dotGeneral dot_S4608x256_S256x1024_S4608x1024_1_0_0_1_n_n none l r) : (⟨S4608x256, .f32⟩ : BufTy).Contents (Elt F) → (⟨S256x1024, .f32⟩ : BufTy).Contents (Elt F) → (⟨S4608x1024, .f32⟩ : BufTy).Contents (Elt F)),
    binary main_v9 main_v13 main_v14 (subf : (⟨S4608x1024, .f32⟩ : BufTy).Contents (Elt F) → (⟨S4608x1024, .f32⟩ : BufTy).Contents (Elt F) → (⟨S4608x1024, .f32⟩ : BufTy).Contents (Elt F)),
    nullary main_cst_2 (constant S_ .f32 0x00000000#32),
    unary main_cst_2 main_v15 (broadcastInDim S4608x1024 ![] bcast_S_S4608x1024 : (⟨S_, .f32⟩ : BufTy).Contents (Elt F) → (⟨S4608x1024, .f32⟩ : BufTy).Contents (Elt F)),
    binary main_v14 main_v15 main_v16 (maximumf : (⟨S4608x1024, .f32⟩ : BufTy).Contents (Elt F) → (⟨S4608x1024, .f32⟩ : BufTy).Contents (Elt F) → (⟨S4608x1024, .f32⟩ : BufTy).Contents (Elt F)),
    unary main_v16 main_v17 (Host.sqrt : (⟨S4608x1024, .f32⟩ : BufTy).Contents (Elt F) → (⟨S4608x1024, .f32⟩ : BufTy).Contents (Elt F)) ]
set_option maxRecDepth 8192 in
/-- Stage 1 reads and writes buffers of the TensorCore only. -/
theorem ops1_sub : (ops1 : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub ..⟩

/-- Stage 2: the indices. -/
abbrev ops2 : List (HloOp τ sig (Elt F)) :=
  [ TRef.nullary (TRef.of (T := ⟨S4608x1024, .i32⟩) main_call0_v0) (iotaInDim S4608x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S4608x1024, .f32⟩) main_v17) (TRef.of (T := ⟨S4608x1024, .i32⟩) main_call0_v0) (TRef.of (T := ⟨S_, .f32⟩) main_call0_cst) (TRef.of (T := ⟨S_, .i32⟩) main_call0_c) (TRef.of (T := ⟨S4608, .f32⟩) main_call0_v1_0) (fun x y u v j => (Host.argReduce reducer_argmin_f32_i32 x y u v reducesTo_S4608x1024_S4608_d1 h_S_ j).1),
    TRef.quaternary (TRef.of (T := ⟨S4608x1024, .f32⟩) main_v17) (TRef.of (T := ⟨S4608x1024, .i32⟩) main_call0_v0) (TRef.of (T := ⟨S_, .f32⟩) main_call0_cst) (TRef.of (T := ⟨S_, .i32⟩) main_call0_c) (TRef.of (T := ⟨S4608, .i32⟩) main_v18) (fun x y u v j => (Host.argReduce reducer_argmin_f32_i32 x y u v reducesTo_S4608x1024_S4608_d1 h_S_ j).2) ]
set_option maxRecDepth 8192 in
/-- Stage 2 reads and writes buffers of the TensorCore only. -/
theorem ops2_sub : (ops2 : List (HloOp τ sig (Elt F))).Forall fun op => op.bufs ⊆ tcRefs τ sig :=
  ⟨nullary_bufs_sub .., nullary_bufs_sub .., nullary_bufs_sub .., quaternary_bufs_sub .., quaternary_bufs_sub ..⟩

/-- Stage 3: the codes and the differences. -/
abbrev ops3 : List (HloOp τ sig (Elt F)) :=
  [ nullary main_c (constantI S_ 32 0#32),
    unary main_c main_v19 (broadcastInDim S4608 ![] bcast_S_S4608 : (⟨S_, .i32⟩ : BufTy).Contents (Elt F) → (⟨S4608, .i32⟩ : BufTy).Contents (Elt F)),
    binary main_v18 main_v19 main_v20 (cmpi .slt : (⟨S4608, .i32⟩ : BufTy).Contents (Elt F) → (⟨S4608, .i32⟩ : BufTy).Contents (Elt F) → (⟨S4608, .i1⟩ : BufTy).Contents (Elt F)),
    nullary main_c_3 (constantI S_ 32 1024#32),
    unary main_c_3 main_v21 (broadcastInDim S4608 ![] bcast_S_S4608 : (⟨S_, .i32⟩ : BufTy).Contents (Elt F) → (⟨S4608, .i32⟩ : BufTy).Contents (Elt F)),
    binary main_v18 main_v21 main_v22 (addi : (⟨S4608, .i32⟩ : BufTy).Contents (Elt F) → (⟨S4608, .i32⟩ : BufTy).Contents (Elt F) → (⟨S4608, .i32⟩ : BufTy).Contents (Elt F)),
    ternary main_v20 main_v22 main_v18 main_v23 (select : (⟨S4608, .i1⟩ : BufTy).Contents (Elt F) → (⟨S4608, .i32⟩ : BufTy).Contents (Elt F) → (⟨S4608, .i32⟩ : BufTy).Contents (Elt F) → (⟨S4608, .i32⟩ : BufTy).Contents (Elt F)),
    unary main_v23 main_v24 (broadcastInDim S4608x1 ![0] bcast_S4608_S4608x1_0 : (⟨S4608, .i32⟩ : BufTy).Contents (Elt F) → (⟨S4608x1, .i32⟩ : BufTy).Contents (Elt F)),
    binary main_arg1 main_v24 main_v25 ((fun x i => Host.gather gather_S1024x256_S4608x1_S4608x256_1_0_n_n_0_1_1256 x i) : (⟨S1024x256, .f32⟩ : BufTy).Contents (Elt F) → (⟨S4608x1, .i32⟩ : BufTy).Contents (Elt F) → (⟨S4608x256, .f32⟩ : BufTy).Contents (Elt F)),
    binary main_v25 main_v0 main_v26 (subf : (⟨S4608x256, .f32⟩ : BufTy).Contents (Elt F) → (⟨S4608x256, .f32⟩ : BufTy).Contents (Elt F) → (⟨S4608x256, .f32⟩ : BufTy).Contents (Elt F)) ]
set_option maxRecDepth 8192 in
/-- Stage 3 reads and writes buffers of the TensorCore only. -/
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩

/-- Stage 4: the quantised rows. -/
abbrev ops4 : List (HloOp τ sig (Elt F)) :=
  [ TRef.binary (TRef.of (T := ⟨S4608x256, .f32⟩) main_v26) (TRef.of (T := ⟨S4608x256, .f32⟩) main_v26) (TRef.of (T := ⟨S4608x256, .f32⟩) main_call1_v0) mulf,
    TRef.nullary (TRef.of (T := ⟨S_, .f32⟩) main_call1_cst) (constant S_ .f32 0x00000000#32),
    TRef.binary (TRef.of (T := ⟨S4608x256, .f32⟩) main_call1_v0) (TRef.of (T := ⟨S_, .f32⟩) main_call1_cst) (TRef.of (T := ⟨S4608, .f32⟩) main_call1_v1) (fun x v => Host.reduceAdd x v reducesTo_S4608x256_S4608_d1 h_S_),
    TRef.unary (TRef.of (T := ⟨S4608, .f32⟩) main_call1_v1) (TRef.of (T := ⟨S4608x1, .f32⟩) main_call1_v2) (broadcastInDim S4608x1 ![0] bcast_S4608_S4608x1_0),
    TRef.unary (TRef.of (T := ⟨S4608x1, .f32⟩) main_call1_v2) (TRef.of (T := ⟨S4608x1, .f32⟩) main_v27) Host.sqrt,
    TRef.binary (TRef.of (T := ⟨S4608x256, .f32⟩) main_v26) (TRef.of (T := ⟨S4608x256, .f32⟩) main_v26) (TRef.of (T := ⟨S4608x256, .f32⟩) main_call2_v0) mulf,
    TRef.nullary (TRef.of (T := ⟨S_, .f32⟩) main_call2_cst) (constant S_ .f32 0x00000000#32),
    TRef.binary (TRef.of (T := ⟨S4608x256, .f32⟩) main_call2_v0) (TRef.of (T := ⟨S_, .f32⟩) main_call2_cst) (TRef.of (T := ⟨S4608, .f32⟩) main_call2_v1) (fun x v => Host.reduceAdd x v reducesTo_S4608x256_S4608_d1 h_S_),
    TRef.unary (TRef.of (T := ⟨S4608, .f32⟩) main_call2_v1) (TRef.of (T := ⟨S4608x1, .f32⟩) main_call2_v2) (broadcastInDim S4608x1 ![0] bcast_S4608_S4608x1_0),
    TRef.unary (TRef.of (T := ⟨S4608x1, .f32⟩) main_call2_v2) (TRef.of (T := ⟨S4608x1, .f32⟩) main_v28) Host.sqrt,
    nullary main_cst_4 (constant S_ .f32 0x00000000#32),
    unary main_cst_4 main_v29 (broadcastInDim S4608x1 ![] bcast_S_S4608x1 : (⟨S_, .f32⟩ : BufTy).Contents (Elt F) → (⟨S4608x1, .f32⟩ : BufTy).Contents (Elt F)),
    binary main_v28 main_v29 main_v30 (cmpf .oeq : (⟨S4608x1, .f32⟩ : BufTy).Contents (Elt F) → (⟨S4608x1, .f32⟩ : BufTy).Contents (Elt F) → (⟨S4608x1, .i1⟩ : BufTy).Contents (Elt F)),
    nullary main_cst_5 (constant S_ .f32 0x3F800000#32),
    TRef.unary (TRef.of (T := ⟨S_, .f32⟩) main_cst_5) (TRef.of (T := ⟨S_, .f32⟩) main_call3_v0) id,
    TRef.unary (TRef.of (T := ⟨S_, .f32⟩) main_call3_v0) (TRef.of (T := ⟨S4608x1, .f32⟩) main_call3_v1) (broadcastInDim S4608x1 ![] bcast_S_S4608x1),
    TRef.ternary (TRef.of (T := ⟨S4608x1, .i1⟩) main_v30) (TRef.of (T := ⟨S4608x1, .f32⟩) main_call3_v1) (TRef.of (T := ⟨S4608x1, .f32⟩) main_v28) (TRef.of (T := ⟨S4608x1, .f32⟩) main_v31) select,
    unary main_v31 main_v32 (broadcastInDim S4608x256 ![0, 1] bcast_S4608x1_S4608x256_0_1 : (⟨S4608x1, .f32⟩ : BufTy).Contents (Elt F) → (⟨S4608x256, .f32⟩ : BufTy).Contents (Elt F)),
    binary main_v26 main_v32 main_v33 (Host.divf : (⟨S4608x256, .f32⟩ : BufTy).Contents (Elt F) → (⟨S4608x256, .f32⟩ : BufTy).Contents (Elt F) → (⟨S4608x256, .f32⟩ : BufTy).Contents (Elt F)),
    unary main_v27 main_v34 (broadcastInDim S4608x256 ![0, 1] bcast_S4608x1_S4608x256_0_1 : (⟨S4608x1, .f32⟩ : BufTy).Contents (Elt F) → (⟨S4608x256, .f32⟩ : BufTy).Contents (Elt F)),
    binary main_v34 main_v33 main_v35 (mulf : (⟨S4608x256, .f32⟩ : BufTy).Contents (Elt F) → (⟨S4608x256, .f32⟩ : BufTy).Contents (Elt F) → (⟨S4608x256, .f32⟩ : BufTy).Contents (Elt F)),
    binary main_v0 main_v35 main_v36 (addf : (⟨S4608x256, .f32⟩ : BufTy).Contents (Elt F) → (⟨S4608x256, .f32⟩ : BufTy).Contents (Elt F) → (⟨S4608x256, .f32⟩ : BufTy).Contents (Elt F)) ]
set_option maxRecDepth 8192 in
/-- Stage 4 reads and writes buffers of the TensorCore only. -/
theorem ops4_sub : (ops4 : List (HloOp τ sig (Elt F))).Forall fun op => op.bufs ⊆ tcRefs τ sig :=
  ⟨binary_bufs_sub .., nullary_bufs_sub .., binary_bufs_sub .., unary_bufs_sub .., unary_bufs_sub .., binary_bufs_sub .., nullary_bufs_sub .., binary_bufs_sub .., unary_bufs_sub .., unary_bufs_sub .., nullary_bufs_sub .., unary_bufs_sub .., binary_bufs_sub .., nullary_bufs_sub .., unary_bufs_sub .., unary_bufs_sub .., ternary_bufs_sub .., unary_bufs_sub .., binary_bufs_sub .., unary_bufs_sub .., binary_bufs_sub .., binary_bufs_sub ..⟩

/-- Stage 5: the loss and the results in their shapes. -/
abbrev ops5 : List (HloOp τ sig (Elt F)) :=
  [ binary main_v25 main_v0 main_v37 (subf : (⟨S4608x256, .f32⟩ : BufTy).Contents (Elt F) → (⟨S4608x256, .f32⟩ : BufTy).Contents (Elt F) → (⟨S4608x256, .f32⟩ : BufTy).Contents (Elt F)),
    binary main_v37 main_v37 main_v38 (mulf : (⟨S4608x256, .f32⟩ : BufTy).Contents (Elt F) → (⟨S4608x256, .f32⟩ : BufTy).Contents (Elt F) → (⟨S4608x256, .f32⟩ : BufTy).Contents (Elt F)),
    nullary main_cst_6 (constant S_ .f32 0x00000000#32),
    binary main_v38 main_cst_6 main_v39 ((fun x v => Host.reduceAdd x v reducesTo_S4608x256_S_d0_1 h_S_) : (⟨S4608x256, .f32⟩ : BufTy).Contents (Elt F) → (⟨S_, .f32⟩ : BufTy).Contents (Elt F) → (⟨S_, .f32⟩ : BufTy).Contents (Elt F)),
    nullary main_cst_7 (constant S_ .f32 0x49900000#32),
    binary main_v39 main_cst_7 main_v40 (Host.divf : (⟨S_, .f32⟩ : BufTy).Contents (Elt F) → (⟨S_, .f32⟩ : BufTy).Contents (Elt F) → (⟨S_, .f32⟩ : BufTy).Contents (Elt F)),
    binary main_v0 main_v25 main_v41 (subf : (⟨S4608x256, .f32⟩ : BufTy).Contents (Elt F) → (⟨S4608x256, .f32⟩ : BufTy).Contents (Elt F) → (⟨S4608x256, .f32⟩ : BufTy).Contents (Elt F)),
    binary main_v41 main_v41 main_v42 (mulf : (⟨S4608x256, .f32⟩ : BufTy).Contents (Elt F) → (⟨S4608x256, .f32⟩ : BufTy).Contents (Elt F) → (⟨S4608x256, .f32⟩ : BufTy).Contents (Elt F)),
    nullary main_cst_8 (constant S_ .f32 0x00000000#32),
    binary main_v42 main_cst_8 main_v43 ((fun x v => Host.reduceAdd x v reducesTo_S4608x256_S_d0_1 h_S_) : (⟨S4608x256, .f32⟩ : BufTy).Contents (Elt F) → (⟨S_, .f32⟩ : BufTy).Contents (Elt F) → (⟨S_, .f32⟩ : BufTy).Contents (Elt F)),
    nullary main_cst_9 (constant S_ .f32 0x49900000#32),
    binary main_v43 main_cst_9 main_v44 (Host.divf : (⟨S_, .f32⟩ : BufTy).Contents (Elt F) → (⟨S_, .f32⟩ : BufTy).Contents (Elt F) → (⟨S_, .f32⟩ : BufTy).Contents (Elt F)),
    nullary main_cst_10 (constant S_ .f32 0x3E800000#32),
    binary main_cst_10 main_v44 main_v45 (mulf : (⟨S_, .f32⟩ : BufTy).Contents (Elt F) → (⟨S_, .f32⟩ : BufTy).Contents (Elt F) → (⟨S_, .f32⟩ : BufTy).Contents (Elt F)),
    binary main_v40 main_v45 main_v46 (addf : (⟨S_, .f32⟩ : BufTy).Contents (Elt F) → (⟨S_, .f32⟩ : BufTy).Contents (Elt F) → (⟨S_, .f32⟩ : BufTy).Contents (Elt F)),
    reshape main_v36 main_v47 (rfl : (.f32 : EltTy) = .f32) shapeCasts_S4608x256_S8x576x256,
    reshape main_v18 main_v48 (rfl : (.i32 : EltTy) = .i32) shapeCasts_S4608_S8x576 ]
set_option maxRecDepth 8192 in
/-- Stage 5 reads and writes buffers of the TensorCore only. -/
theorem ops5_sub : (ops5 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., reshape_bufs_sub .., reshape_bufs_sub ..⟩

/-- The reference's operations in order, those of a called function in its call's place. -/
abbrev ops : List (HloOp τ sig (Elt F)) := ops1 ++ (ops2 ++ (ops3 ++ (ops4 ++ ops5)))

set_option maxRecDepth 8192 in
set_option maxHeartbeats 4000000 in
/-- The program is that sequence of operations. -/
theorem main_eq (c : Dev nD) : main (F := F) c = seq ops := rfl
/-- It scopes no buffer, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide
/-- Every operation reads and writes buffers of the TensorCore only. -/
theorem ops_sub : (ops : List (HloOp τ sig (Elt F))).Forall fun op => op.bufs ⊆ tcRefs τ sig :=
  List.forall_append.2 ⟨ops1_sub, List.forall_append.2 ⟨ops2_sub, List.forall_append.2 ⟨ops3_sub, List.forall_append.2 ⟨ops4_sub, ops5_sub⟩⟩⟩⟩

variable (V : Valuation τ sig (Elt F))

set_option maxRecDepth 8192 in
set_option maxHeartbeats 4000000 in
/-- Stage 1 leaves the rows, -/
theorem s1_v0 : after ops1 V main_v0 = Terms.flat (V main_arg0) := by
  simp only [ops1, TRef.binary, TRef.nullary, TRef.ternary, TRef.unary, TRef.quaternary, TRef.toBuf, TRef.ofBuf, cast_eq]; after_results_simp <;> rfl
set_option maxRecDepth 8192 in
set_option maxHeartbeats 4000000 in
/-- and their distances to the codes. -/
theorem s1_v17 : after ops1 V main_v17 = Terms.dist (Terms.flat (V main_arg0)) (V main_arg1) := by
  simp only [ops1, TRef.binary, TRef.nullary, TRef.ternary, TRef.unary, TRef.quaternary, TRef.toBuf, TRef.ofBuf, cast_eq]; after_results_simp <;> rfl
set_option maxRecDepth 8192 in
set_option maxHeartbeats 4000000 in
/-- Stage 1 leaves `main_arg0` alone. -/
theorem s1_arg0 : after ops1 V main_arg0 = V main_arg0 := by
  simp only [ops1, TRef.binary, TRef.nullary, TRef.ternary, TRef.unary, TRef.quaternary, TRef.toBuf, TRef.ofBuf, cast_eq]; after_results_simp <;> rfl
set_option maxRecDepth 8192 in
set_option maxHeartbeats 4000000 in
/-- Stage 1 leaves `main_arg1` alone. -/
theorem s1_arg1 : after ops1 V main_arg1 = V main_arg1 := by
  simp only [ops1, TRef.binary, TRef.nullary, TRef.ternary, TRef.unary, TRef.quaternary, TRef.toBuf, TRef.ofBuf, cast_eq]; after_results_simp <;> rfl
set_option maxRecDepth 8192 in
set_option maxHeartbeats 4000000 in
/-- Stage 2 leaves the indices. -/
theorem s2_v18 : after ops2 V main_v18 = Terms.argmin (V main_v17) := by
  simp only [ops2, TRef.binary, TRef.nullary, TRef.ternary, TRef.unary, TRef.quaternary, TRef.toBuf, TRef.ofBuf, cast_eq]; after_results_simp <;> rfl
set_option maxRecDepth 8192 in
set_option maxHeartbeats 4000000 in
/-- Stage 2 leaves `main_v0` alone. -/
theorem s2_v0 : after ops2 V main_v0 = V main_v0 := by
  simp only [ops2, TRef.binary, TRef.nullary, TRef.ternary, TRef.unary, TRef.quaternary, TRef.toBuf, TRef.ofBuf, cast_eq]; after_results_simp <;> rfl
set_option maxRecDepth 8192 in
set_option maxHeartbeats 4000000 in
/-- Stage 2 leaves `main_arg0` alone. -/
theorem s2_arg0 : after ops2 V main_arg0 = V main_arg0 := by
  simp only [ops2, TRef.binary, TRef.nullary, TRef.ternary, TRef.unary, TRef.quaternary, TRef.toBuf, TRef.ofBuf, cast_eq]; after_results_simp <;> rfl
set_option maxRecDepth 8192 in
set_option maxHeartbeats 4000000 in
/-- Stage 2 leaves `main_arg1` alone. -/
theorem s2_arg1 : after ops2 V main_arg1 = V main_arg1 := by
  simp only [ops2, TRef.binary, TRef.nullary, TRef.ternary, TRef.unary, TRef.quaternary, TRef.toBuf, TRef.ofBuf, cast_eq]; after_results_simp <;> rfl
set_option maxRecDepth 8192 in
set_option maxHeartbeats 4000000 in
/-- Stage 3 leaves the codes the indices name, -/
theorem s3_v25 : after ops3 V main_v25 = Terms.take (V main_arg1) (V main_v18) := by
  simp only [ops3, TRef.binary, TRef.nullary, TRef.ternary, TRef.unary, TRef.quaternary, TRef.toBuf, TRef.ofBuf, cast_eq]; after_results_simp <;> rfl
set_option maxRecDepth 8192 in
set_option maxHeartbeats 4000000 in
/-- and their differences to the rows. -/
theorem s3_v26 : after ops3 V main_v26 = subf (Terms.take (V main_arg1) (V main_v18)) (V main_v0) := by
  simp only [ops3, TRef.binary, TRef.nullary, TRef.ternary, TRef.unary, TRef.quaternary, TRef.toBuf, TRef.ofBuf, cast_eq]; after_results_simp <;> rfl
set_option maxRecDepth 8192 in
set_option maxHeartbeats 4000000 in
/-- Stage 3 leaves `main_v0` alone. -/
theorem s3_v0 : after ops3 V main_v0 = V main_v0 := by
  simp only [ops3, TRef.binary, TRef.nullary, TRef.ternary, TRef.unary, TRef.quaternary, TRef.toBuf, TRef.ofBuf, cast_eq]; after_results_simp <;> rfl
set_option maxRecDepth 8192 in
set_option maxHeartbeats 4000000 in
/-- Stage 3 leaves `main_v18` alone. -/
theorem s3_v18 : after ops3 V main_v18 = V main_v18 := by
  simp only [ops3, TRef.binary, TRef.nullary, TRef.ternary, TRef.unary, TRef.quaternary, TRef.toBuf, TRef.ofBuf, cast_eq]; after_results_simp <;> rfl
set_option maxRecDepth 8192 in
set_option maxHeartbeats 4000000 in
/-- Stage 3 leaves `main_arg0` alone. -/
theorem s3_arg0 : after ops3 V main_arg0 = V main_arg0 := by
  simp only [ops3, TRef.binary, TRef.nullary, TRef.ternary, TRef.unary, TRef.quaternary, TRef.toBuf, TRef.ofBuf, cast_eq]; after_results_simp <;> rfl
set_option maxRecDepth 8192 in
set_option maxHeartbeats 4000000 in
/-- Stage 3 leaves `main_arg1` alone. -/
theorem s3_arg1 : after ops3 V main_arg1 = V main_arg1 := by
  simp only [ops3, TRef.binary, TRef.nullary, TRef.ternary, TRef.unary, TRef.quaternary, TRef.toBuf, TRef.ofBuf, cast_eq]; after_results_simp <;> rfl
set_option maxRecDepth 8192 in
set_option maxHeartbeats 4000000 in
/-- Stage 4 leaves the quantised rows. -/
theorem s4_v36 : after ops4 V main_v36 = Terms.moved (V main_v0) (V main_v26) (Terms.normOrOne (V main_v26)) := by
  simp only [ops4, TRef.binary, TRef.nullary, TRef.ternary, TRef.unary, TRef.quaternary, TRef.toBuf, TRef.ofBuf, cast_eq]; after_results_simp <;> rfl
set_option maxRecDepth 8192 in
set_option maxHeartbeats 4000000 in
/-- Stage 4 leaves `main_v0` alone. -/
theorem s4_v0 : after ops4 V main_v0 = V main_v0 := by
  simp only [ops4, TRef.binary, TRef.nullary, TRef.ternary, TRef.unary, TRef.quaternary, TRef.toBuf, TRef.ofBuf, cast_eq]; after_results_simp <;> rfl
set_option maxRecDepth 8192 in
set_option maxHeartbeats 4000000 in
/-- Stage 4 leaves `main_v18` alone. -/
theorem s4_v18 : after ops4 V main_v18 = V main_v18 := by
  simp only [ops4, TRef.binary, TRef.nullary, TRef.ternary, TRef.unary, TRef.quaternary, TRef.toBuf, TRef.ofBuf, cast_eq]; after_results_simp <;> rfl
set_option maxRecDepth 8192 in
set_option maxHeartbeats 4000000 in
/-- Stage 4 leaves `main_v25` alone. -/
theorem s4_v25 : after ops4 V main_v25 = V main_v25 := by
  simp only [ops4, TRef.binary, TRef.nullary, TRef.ternary, TRef.unary, TRef.quaternary, TRef.toBuf, TRef.ofBuf, cast_eq]; after_results_simp <;> rfl
set_option maxRecDepth 8192 in
set_option maxHeartbeats 4000000 in
/-- Stage 4 leaves `main_arg0` alone. -/
theorem s4_arg0 : after ops4 V main_arg0 = V main_arg0 := by
  simp only [ops4, TRef.binary, TRef.nullary, TRef.ternary, TRef.unary, TRef.quaternary, TRef.toBuf, TRef.ofBuf, cast_eq]; after_results_simp <;> rfl
set_option maxRecDepth 8192 in
set_option maxHeartbeats 4000000 in
/-- Stage 4 leaves `main_arg1` alone. -/
theorem s4_arg1 : after ops4 V main_arg1 = V main_arg1 := by
  simp only [ops4, TRef.binary, TRef.nullary, TRef.ternary, TRef.unary, TRef.quaternary, TRef.toBuf, TRef.ofBuf, cast_eq]; after_results_simp <;> rfl
set_option maxRecDepth 8192 in
set_option maxHeartbeats 4000000 in
/-- Stage 5 leaves the quantised rows in the shape of the input, -/
theorem s5_v47 : after ops5 V main_v47 = shapeCast S8x576x256 (V main_v36) shapeCasts_S4608x256_S8x576x256 := by
  simp only [ops5, TRef.binary, TRef.nullary, TRef.ternary, TRef.unary, TRef.quaternary, TRef.toBuf, TRef.ofBuf, cast_eq]; after_results_simp <;> rfl
set_option maxRecDepth 8192 in
set_option maxHeartbeats 4000000 in
/-- the loss, -/
theorem s5_v46 : after ops5 V main_v46 = addf (Terms.meanSq (subf (V main_v25) (V main_v0))) (mulf (constant S_ .f32 0x3E800000#32) (Terms.meanSq (subf (V main_v0) (V main_v25)))) := by
  simp only [ops5, TRef.binary, TRef.nullary, TRef.ternary, TRef.unary, TRef.quaternary, TRef.toBuf, TRef.ofBuf, cast_eq]; after_results_simp <;> rfl
set_option maxRecDepth 8192 in
set_option maxHeartbeats 4000000 in
/-- and the indices in their shape. -/
theorem s5_v48 : after ops5 V main_v48 = shapeCast S8x576 (V main_v18) shapeCasts_S4608_S8x576 := by
  simp only [ops5, TRef.binary, TRef.nullary, TRef.ternary, TRef.unary, TRef.quaternary, TRef.toBuf, TRef.ofBuf, cast_eq]; after_results_simp <;> rfl
set_option maxRecDepth 8192 in
set_option maxHeartbeats 4000000 in
/-- Stage 5 leaves `main_arg0` alone. -/
theorem s5_arg0 : after ops5 V main_arg0 = V main_arg0 := by
  simp only [ops5, TRef.binary, TRef.nullary, TRef.ternary, TRef.unary, TRef.quaternary, TRef.toBuf, TRef.ofBuf, cast_eq]; after_results_simp <;> rfl
set_option maxRecDepth 8192 in
set_option maxHeartbeats 4000000 in
/-- Stage 5 leaves `main_arg1` alone. -/
theorem s5_arg1 : after ops5 V main_arg1 = V main_arg1 := by
  simp only [ops5, TRef.binary, TRef.nullary, TRef.ternary, TRef.unary, TRef.quaternary, TRef.toBuf, TRef.ofBuf, cast_eq]; after_results_simp <;> rfl

/-- All five stages in turn. -/
theorem after_ops : after ops V = after ops5 (after ops4 (after ops3 (after ops2 (after ops1 V)))) := by
  unfold ops; rw [after_append, after_append, after_append, after_append]

/-- Result 1 of the reference's operations, -/
theorem res_v47 : after ops V main_v47 = Terms.out0 (V main_arg0) (V main_arg1) := by
  rw [after_ops, s5_v47, s4_v36, s3_v0, s3_v26, s2_v0, s2_v18, s2_arg1, s1_v0, s1_v17, s1_arg1]; rfl
/-- result 2, -/
theorem res_v46 : after ops V main_v46 = Terms.out1 (V main_arg0) (V main_arg1) := by
  rw [after_ops, s5_v46, s4_v25, s4_v0, s3_v25, s3_v0, s2_v0, s2_v18, s2_arg1, s1_v0, s1_v17, s1_arg1]; rfl
/-- and result 3; -/
theorem res_v48 : after ops V main_v48 = Terms.out2 (V main_arg0) (V main_arg1) := by
  rw [after_ops, s5_v48, s4_v18, s3_v18, s2_v18, s1_v17]; rfl
/-- the first argument is left alone, -/
theorem res_arg0 : after ops V main_arg0 = V main_arg0 := by
  rw [after_ops, s5_arg0, s4_arg0, s3_arg0, s2_arg0, s1_arg0]
/-- and so is the second. -/
theorem res_arg1 : after ops V main_arg1 = V main_arg1 := by
  rw [after_ops, s5_arg1, s4_arg1, s3_arg1, s2_arg1, s1_arg1]

/-- Every execution of the reference terminates with its three results at `Terms.out0`, `Terms.out1` and `Terms.out2` of
    its arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = Terms.out0 (m ((c.tc : Thread nD τ).loc main_arg0)) (m ((c.tc : Thread nD τ).loc main_arg1))
      ∧ r.2.mem ((c.tc : Thread nD τ).loc main_v46) = Terms.out1 (m ((c.tc : Thread nD τ).loc main_arg0)) (m ((c.tc : Thread nD τ).loc main_arg1))
      ∧ r.2.mem ((c.tc : Thread nD τ).loc main_v48) = Terms.out2 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v47).trans (res_v47 _), (h c main_v46).trans (res_v46 _),
      (h c main_v48).trans (res_v48 _), (h c main_arg0).trans (res_arg0 _), (h c main_arg1).trans (res_arg1 _)⟩)
    (run_seq scopedRefs_eq scopedSems_eq defs main (fun _ => ops) main_eq (fun _ => ops_sub) m ρ)

/-- The reference's frame: it terminates, its arguments end unchanged and, as it has no semaphore, every counter is zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2.2, sem_eq_zero_of_no_sems rfl r.2⟩) (run m ρ)

end Cert.ReferenceIdeal.Value
-- ==== Proof.KernelBlocks.lean ====
/- What one call of the kernel's body leaves in its three outputs, as the named terms of the values its loads read: the block
   of quantised rows, the block of indices, and the running loss (started at zero at the first grid point). -/
module

public import proofs.«01_k».proof.Proof.Gen.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem

variable {F : FTy → Type} [FloatOps F] [Named F]

theorem hz2 : (![0, 0] : Fin 2 → Nat) = fun _ => 0 := funext fun a => by fin_cases a <;> rfl
/-- The one index of a [1,1] array. -/
def o0 : S1x1.Idx := fun a => ⟨0, by fin_cases a <;> decide⟩
theorem idx_o0 (i : S1x1.Idx) : i = o0 := funext fun a => Fin.ext (by
  have h := (i a).isLt
  match a with
  | ⟨0, _⟩ => exact Nat.lt_one_iff.mp h
  | ⟨1, _⟩ => exact Nat.lt_one_iff.mp h)
theorem hz3 : (![0, 0, 0] : Fin 3 → Nat) = fun _ => 0 := funext fun a => by fin_cases a <;> rfl

/-- At the first grid point the body leaves the quantised rows of its block, -/
theorem out_A_5 (c : Dev nD) (i : grid0.Coords) (a1 : Memref sig .tc .vmem S1152x256 .f32) (h1 : a1.IsWhole) (a2 : Memref sig .tc .vmem S1024x256 .f32) (h2 : a2.IsWhole) (a3 : Memref sig .tc .vmem S1024x256 .bf16) (h3 : a3.IsWhole) (a4 : Memref sig .tc .vmem S1152x1 .f32) (h4 : a4.IsWhole) (a5 : Memref sig .tc .vmem S1x1024 .f32) (h5 : a5.IsWhole) (a6 : Memref sig .tc .vmem S1152x256 .f32) (h6 : a6.IsWhole) (a7 : Memref sig .tc .vmem S1x1x1152 .i32) (h7 : a7.IsWhole) (a8 : Memref sig .tc .smem S1x1 .f32) (h8 : a8.IsWhole)
    (hc : cond0_0 i) (x0 : Vec F S1152x256 .f32) (x1 : Vec F S1024x256 .f32) (x2 : Vec F S1024x256 .bf16) (x3 : Vec F S1152x1 .f32) (x4 : Vec F S1x1024 .f32) :
    out0_A_5 c i a1 h1 a2 h2 a3 h3 a4 h4 a5 h5 a6 h6 a7 h7 a8 h8 hc x0 x1 x2 x3 x4 = k0_pay6 x0 x1 x3 x4 x2 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero (S := S1152x256) hz2]
  simp only [View.readAt_eq_ld, h1.read_unread, h2.read_unread, h3.read_unread, h4.read_unread, h5.read_unread, View.ld_unit_zero (S := S1152x256) hz2, View.ld_unit_zero (S := S1024x256) hz2, View.ld_unit_zero (S := S1152x1) hz2, View.ld_unit_zero (S := S1x1024) hz2, View.ld_unit_zero (S := S1x1) hz2]

/-- their indices, -/
theorem out_A_6 (c : Dev nD) (i : grid0.Coords) (a1 : Memref sig .tc .vmem S1152x256 .f32) (h1 : a1.IsWhole) (a2 : Memref sig .tc .vmem S1024x256 .f32) (h2 : a2.IsWhole) (a3 : Memref sig .tc .vmem S1024x256 .bf16) (h3 : a3.IsWhole) (a4 : Memref sig .tc .vmem S1152x1 .f32) (h4 : a4.IsWhole) (a5 : Memref sig .tc .vmem S1x1024 .f32) (h5 : a5.IsWhole) (a6 : Memref sig .tc .vmem S1152x256 .f32) (h6 : a6.IsWhole) (a7 : Memref sig .tc .vmem S1x1x1152 .i32) (h7 : a7.IsWhole) (a8 : Memref sig .tc .smem S1x1 .f32) (h8 : a8.IsWhole)
    (hc : cond0_0 i) (x0 : Vec F S1152x256 .f32) (x1 : Vec F S1024x256 .f32) (x2 : Vec F S1024x256 .bf16) (x3 : Vec F S1152x1 .f32) (x4 : Vec F S1x1024 .f32) :
    out0_A_6 c i a1 h1 a2 h2 a3 h3 a4 h4 a5 h5 a6 h6 a7 h7 a8 h8 hc x0 x1 x2 x3 x4 = k0_pay5 x0 x1 x3 x4 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_unit_zero (S := S1x1x1152) hz3]
  simp only [View.readAt_eq_ld, h1.read_unread, h2.read_unread, h3.read_unread, h4.read_unread, h5.read_unread, View.ld_unit_zero (S := S1152x256) hz2, View.ld_unit_zero (S := S1024x256) hz2, View.ld_unit_zero (S := S1152x1) hz2, View.ld_unit_zero (S := S1x1024) hz2, View.ld_unit_zero (S := S1x1) hz2]

/-- and the block's part of the loss, started from zero. -/
theorem out_A_7 (c : Dev nD) (i : grid0.Coords) (a1 : Memref sig .tc .vmem S1152x256 .f32) (h1 : a1.IsWhole) (a2 : Memref sig .tc .vmem S1024x256 .f32) (h2 : a2.IsWhole) (a3 : Memref sig .tc .vmem S1024x256 .bf16) (h3 : a3.IsWhole) (a4 : Memref sig .tc .vmem S1152x1 .f32) (h4 : a4.IsWhole) (a5 : Memref sig .tc .vmem S1x1024 .f32) (h5 : a5.IsWhole) (a6 : Memref sig .tc .vmem S1152x256 .f32) (h6 : a6.IsWhole) (a7 : Memref sig .tc .vmem S1x1x1152 .i32) (h7 : a7.IsWhole) (a8 : Memref sig .tc .smem S1x1 .f32) (h8 : a8.IsWhole)
    (hc : cond0_0 i) (x0 : Vec F S1152x256 .f32) (x1 : Vec F S1024x256 .f32) (x2 : Vec F S1024x256 .bf16) (x3 : Vec F S1152x1 .f32) (x4 : Vec F S1x1024 .f32) :
    out0_A_7 c i a1 h1 a2 h2 a3 h3 a4 h4 a5 h5 a6 h6 a7 h7 a8 h8 hc x0 x1 x2 x3 x4 = fun _ => k0_pay1 (k0_pay3 x0 x1 x3 x4) (Scalar.ofBits .f32 0x00000000#32) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x1) hz2]
  simp only [View.readAt_eq_ld, h1.read_unread, h2.read_unread, h3.read_unread, h4.read_unread, h5.read_unread, View.ld_unit_zero (S := S1152x256) hz2, View.ld_unit_zero (S := S1024x256) hz2, View.ld_unit_zero (S := S1152x1) hz2, View.ld_unit_zero (S := S1x1024) hz2, View.ld_unit_zero (S := S1x1) hz2]
  rfl

/-- At a later grid point the body leaves the quantised rows of its block, -/
theorem out_B_5 (c : Dev nD) (i : grid0.Coords) (a1 : Memref sig .tc .vmem S1152x256 .f32) (h1 : a1.IsWhole) (a2 : Memref sig .tc .vmem S1024x256 .f32) (h2 : a2.IsWhole) (a3 : Memref sig .tc .vmem S1024x256 .bf16) (h3 : a3.IsWhole) (a4 : Memref sig .tc .vmem S1152x1 .f32) (h4 : a4.IsWhole) (a5 : Memref sig .tc .vmem S1x1024 .f32) (h5 : a5.IsWhole) (a6 : Memref sig .tc .vmem S1152x256 .f32) (h6 : a6.IsWhole) (a7 : Memref sig .tc .vmem S1x1x1152 .i32) (h7 : a7.IsWhole) (a8 : Memref sig .tc .smem S1x1 .f32) (h8 : a8.IsWhole)
    (hc : ¬cond0_0 i) (x0 : Vec F S1152x256 .f32) (x1 : Vec F S1024x256 .f32) (x2 : Vec F S1024x256 .bf16) (x3 : Vec F S1152x1 .f32) (x4 : Vec F S1x1024 .f32) (xo : Vec F S1x1 .f32) :
    out0_B_5 c i a1 h1 a2 h2 a3 h3 a4 h4 a5 h5 a6 h6 a7 h7 a8 h8 hc x0 x1 x2 x3 x4 xo = k0_pay6 x0 x1 x3 x4 x2 := by
  unfold out0_B_5
  rw [View.read_writes_eq_canon _ _ _ (cover0_B_5 c i a1 h1 a2 h2 a3 h3 a4 h4 a5 h5 a6 h6 a7 h7 a8 h8 hc x0 x1 x2 x3 x4 xo)]
  unfold kernelRun0_B
  dsimp only
  sl_unfold_words
  rw [View.canon_unit_zero (S := S1152x256) hz2]
  simp only [View.readAt_eq_ld, h1.read_unread, h2.read_unread, h3.read_unread, h4.read_unread, h5.read_unread, h8.read_unread, View.ld_unit_zero (S := S1152x256) hz2, View.ld_unit_zero (S := S1024x256) hz2, View.ld_unit_zero (S := S1152x1) hz2, View.ld_unit_zero (S := S1x1024) hz2, View.ld_unit_zero (S := S1x1) hz2]

/-- their indices, -/
theorem out_B_6 (c : Dev nD) (i : grid0.Coords) (a1 : Memref sig .tc .vmem S1152x256 .f32) (h1 : a1.IsWhole) (a2 : Memref sig .tc .vmem S1024x256 .f32) (h2 : a2.IsWhole) (a3 : Memref sig .tc .vmem S1024x256 .bf16) (h3 : a3.IsWhole) (a4 : Memref sig .tc .vmem S1152x1 .f32) (h4 : a4.IsWhole) (a5 : Memref sig .tc .vmem S1x1024 .f32) (h5 : a5.IsWhole) (a6 : Memref sig .tc .vmem S1152x256 .f32) (h6 : a6.IsWhole) (a7 : Memref sig .tc .vmem S1x1x1152 .i32) (h7 : a7.IsWhole) (a8 : Memref sig .tc .smem S1x1 .f32) (h8 : a8.IsWhole)
    (hc : ¬cond0_0 i) (x0 : Vec F S1152x256 .f32) (x1 : Vec F S1024x256 .f32) (x2 : Vec F S1024x256 .bf16) (x3 : Vec F S1152x1 .f32) (x4 : Vec F S1x1024 .f32) (xo : Vec F S1x1 .f32) :
    out0_B_6 c i a1 h1 a2 h2 a3 h3 a4 h4 a5 h5 a6 h6 a7 h7 a8 h8 hc x0 x1 x2 x3 x4 xo = k0_pay5 x0 x1 x3 x4 := by
  unfold out0_B_6
  rw [View.read_writes_eq_canon _ _ _ (cover0_B_6 c i a1 h1 a2 h2 a3 h3 a4 h4 a5 h5 a6 h6 a7 h7 a8 h8 hc x0 x1 x2 x3 x4 xo)]
  unfold kernelRun0_B
  dsimp only
  sl_unfold_words
  rw [View.canon_unit_zero (S := S1x1x1152) hz3]
  simp only [View.readAt_eq_ld, h1.read_unread, h2.read_unread, h3.read_unread, h4.read_unread, h5.read_unread, h8.read_unread, View.ld_unit_zero (S := S1152x256) hz2, View.ld_unit_zero (S := S1024x256) hz2, View.ld_unit_zero (S := S1152x1) hz2, View.ld_unit_zero (S := S1x1024) hz2, View.ld_unit_zero (S := S1x1) hz2]

/-- and the block's part of the loss, added to what the point before left. -/
theorem out_B_7 (c : Dev nD) (i : grid0.Coords) (a1 : Memref sig .tc .vmem S1152x256 .f32) (h1 : a1.IsWhole) (a2 : Memref sig .tc .vmem S1024x256 .f32) (h2 : a2.IsWhole) (a3 : Memref sig .tc .vmem S1024x256 .bf16) (h3 : a3.IsWhole) (a4 : Memref sig .tc .vmem S1152x1 .f32) (h4 : a4.IsWhole) (a5 : Memref sig .tc .vmem S1x1024 .f32) (h5 : a5.IsWhole) (a6 : Memref sig .tc .vmem S1152x256 .f32) (h6 : a6.IsWhole) (a7 : Memref sig .tc .vmem S1x1x1152 .i32) (h7 : a7.IsWhole) (a8 : Memref sig .tc .smem S1x1 .f32) (h8 : a8.IsWhole)
    (hc : ¬cond0_0 i) (x0 : Vec F S1152x256 .f32) (x1 : Vec F S1024x256 .f32) (x2 : Vec F S1024x256 .bf16) (x3 : Vec F S1152x1 .f32) (x4 : Vec F S1x1024 .f32) (xo : Vec F S1x1 .f32) :
    out0_B_7 c i a1 h1 a2 h2 a3 h3 a4 h4 a5 h5 a6 h6 a7 h7 a8 h8 hc x0 x1 x2 x3 x4 xo = fun _ => k0_pay1 (k0_pay3 x0 x1 x3 x4) (xo o0) := by
  unfold out0_B_7
  rw [View.read_writes_eq_canon _ _ _ (cover0_B_7 c i a1 h1 a2 h2 a3 h3 a4 h4 a5 h5 a6 h6 a7 h7 a8 h8 hc x0 x1 x2 x3 x4 xo)]
  unfold kernelRun0_B
  dsimp only
  sl_unfold_words
  rw [View.canon_unit_zero (S := S1x1) hz2]
  simp only [View.readAt_eq_ld, h1.read_unread, h2.read_unread, h3.read_unread, h4.read_unread, h5.read_unread, h8.read_unread, View.ld_unit_zero (S := S1152x256) hz2, View.ld_unit_zero (S := S1024x256) hz2, View.ld_unit_zero (S := S1152x1) hz2, View.ld_unit_zero (S := S1x1024) hz2, View.ld_unit_zero (S := S1x1) hz2]
  funext _; congr 1
  exact congrArg xo (idx_o0 _)

end Cert.KernelIdeal.Value

end
-- ==== Proof.Nearest.lean ====
/- The first index at which a function on the 1024 codes is smallest, and the two ways the programs find it: a minimum of the
   values followed by a minimum of the indices that attain it, and one left fold over pairs of a value and its index. -/
module

public import Idealize.ShloMosaic.Lib.Pointwise
public import Idealize.ShloMosaic.Lib.PlanTiles.Rows

@[expose] public section

namespace Cert.Spec

open Idealize.ShloMosaic

/-- `i` is the first index at which `f` is smallest. -/
def IsFirst (f : Fin 1024 → EReal) (i : Fin 1024) : Prop := (∀ j, f i ≤ f j) ∧ ∀ j, f j = f i → i ≤ j

/-- There is a first index at which `f` is smallest. -/
theorem exists_first (f : Fin 1024 → EReal) : ∃ i, IsFirst f i := by
  obtain ⟨a, -, ha⟩ := Finset.exists_min_image Finset.univ f ⟨0, Finset.mem_univ _⟩
  have hne : (Finset.univ.filter fun i => f i = f a).Nonempty := ⟨a, by simp⟩
  refine ⟨(Finset.univ.filter fun i => f i = f a).min' hne, ?_, ?_⟩
  · have h := Finset.min'_mem _ hne
    rw [Finset.mem_filter] at h
    intro j
    rw [h.2]
    exact ha j (Finset.mem_univ _)
  · have h := Finset.min'_mem _ hne
    rw [Finset.mem_filter] at h
    intro j hj
    exact Finset.min'_le _ _ (by rw [Finset.mem_filter]; exact ⟨Finset.mem_univ _, hj.trans h.2⟩)

/-- The first index at which `f` is smallest. -/
noncomputable def first (f : Fin 1024 → EReal) : Fin 1024 := (exists_first f).choose

/-- `first f` is that index. -/
theorem first_spec (f : Fin 1024 → EReal) : IsFirst f (first f) := (exists_first f).choose_spec

/-- No other index is. -/
theorem eq_first {f : Fin 1024 → EReal} {i : Fin 1024} (h : IsFirst f i) : i = first f := by
  have h' := first_spec f
  have e : f i = f (first f) := le_antisymm (h.1 _) (h'.1 _)
  exact le_antisymm (h.2 _ e.symm) (h'.2 _ e)

/-- The fold of `min` from `⊤` is the value at the first smallest index. -/
theorem fold_min_eq (f : Fin 1024 → EReal) : Finset.fold min ⊤ f Finset.univ = f (first f) := by
  refine le_antisymm ?_ ?_
  · exact (Finset.fold_min_le _).2 (Or.inr ⟨_, Finset.mem_univ _, le_rfl⟩)
  · exact (Finset.le_fold_min _).2 ⟨le_top, fun x _ => (first_spec f).1 x⟩

/-- The signed minimum of two words below 2^31 is the word of the minimum. -/
theorem minsi_ofNat {a b : ℕ} (ha : a < 2 ^ 31) (hb : b < 2 ^ 31) :
    IntOp.minsi (BitVec.ofNat 32 a) (BitVec.ofNat 32 b) = BitVec.ofNat 32 (min a b) := by
  rw [PlanTiles.minsi_word ha hb, min_comm]

/-- The fold of the signed minimum over words below 2^31 is the word of the fold of the minimum. -/
theorem fold_minsi {ι : Type*} [DecidableEq ι] (g : ι → ℕ) (hg : ∀ x, g x < 2 ^ 31) (n : ℕ) (hn : n < 2 ^ 31) (s : Finset ι) :
    Finset.fold IntOp.minsi (BitVec.ofNat 32 n) (fun x => BitVec.ofNat 32 (g x)) s = BitVec.ofNat 32 (Finset.fold min n g s) := by
  induction s using Finset.induction_on with
  | empty => simp
  | insert a s ha ih =>
    rw [Finset.fold_insert ha, Finset.fold_insert ha, ih, minsi_ofNat (hg a)]
    exact lt_of_le_of_lt ((Finset.fold_min_le _).2 (Or.inl le_rfl)) hn

/-- The smallest of the indices where `f` takes its smallest value, 1024 standing for "not here", is the first such index. -/
theorem fold_index_eq (f : Fin 1024 → EReal) :
    Finset.fold IntOp.minsi 2147483647#32 (fun x : Fin 1024 => if f x = f (first f) then BitVec.ofNat 32 x.val else 1024#32)
      Finset.univ = BitVec.ofNat 32 (first f).val := by
  have h := fold_minsi (fun x : Fin 1024 => if f x = f (first f) then x.val else 1024)
    (fun x => by have := x.isLt; split <;> omega) 2147483647 (by norm_num) Finset.univ
  have e : (fun x : Fin 1024 => BitVec.ofNat 32 (if f x = f (first f) then x.val else 1024))
      = fun x : Fin 1024 => if f x = f (first f) then BitVec.ofNat 32 x.val else 1024#32 := by
    funext x; split <;> rfl
  rw [e] at h
  refine h.trans (congrArg _ (le_antisymm ?_ ?_))
  · exact (Finset.fold_min_le _).2 (Or.inr ⟨first f, Finset.mem_univ _, by simp⟩)
  · refine (Finset.le_fold_min _).2 ⟨by have := (first f).isLt; omega, fun x _ => ?_⟩
    have := (first f).isLt
    split
    · rename_i hx; exact (first_spec f).2 x hx
    · omega

/-- One step of the fold over pairs of a value and its index: the pair with the smaller value stays, of two equal values the
    one with the smaller index. -/
noncomputable def stepPair (a b : EReal × BitVec 32) : EReal × BitVec 32 :=
  (if a.1 < b.1 then a.1 else b.1, if a.1 < b.1 ∨ (a.1 = b.1 ∧ a.2.toInt < b.2.toInt) then a.2 else b.2)

/-- A word below 1024, read signed, is its number. -/
theorem toInt_ofNat_fin (e : Fin 1024) : (BitVec.ofNat 32 e.val).toInt = (e.val : ℤ) := by
  have := e.isLt
  rw [BitVec.toInt_eq_toNat_of_lt] <;> simp only [BitVec.toNat_ofNat] <;> omega

/-- The left fold of `stepPair` over the pairs of `f` at a list of indices: its pair is below the start and every listed pair, and is
    one of them. -/
theorem foldl_stepPair (f : Fin 1024 → EReal) (L : List (Fin 1024)) : ∀ (a : EReal) (i0 : Fin 1024),
    ∃ (r : EReal) (i : Fin 1024),
      (L.map fun e => (f e, BitVec.ofNat 32 e.val)).foldl stepPair (a, BitVec.ofNat 32 i0.val) = (r, BitVec.ofNat 32 i.val)
      ∧ (r < a ∨ (r = a ∧ i ≤ i0)) ∧ (∀ e ∈ L, r < f e ∨ (r = f e ∧ i ≤ e))
      ∧ ((r = a ∧ i = i0) ∨ r = f i) := by
  induction L with
  | nil => intro a i0; exact ⟨a, i0, rfl, Or.inr ⟨rfl, le_rfl⟩, by simp, Or.inl ⟨rfl, rfl⟩⟩
  | cons x L ih =>
    intro a i0
    have hs : ∃ (b : EReal) (k : Fin 1024), stepPair (a, BitVec.ofNat 32 i0.val) (f x, BitVec.ofNat 32 x.val) = (b, BitVec.ofNat 32 k.val)
        ∧ (b < a ∨ (b = a ∧ k ≤ i0)) ∧ (b < f x ∨ (b = f x ∧ k ≤ x)) ∧ ((b = a ∧ k = i0) ∨ (b = f x ∧ k = x)) := by
      unfold stepPair
      simp only [toInt_ofNat_fin]
      rcases lt_trichotomy a (f x) with h | h | h
      · exact ⟨a, i0, by simp [h], Or.inr ⟨rfl, le_rfl⟩, Or.inl h, Or.inl ⟨rfl, rfl⟩⟩
      · subst h
        by_cases hi : i0 < x
        · refine ⟨f x, i0, ?_, Or.inr ⟨rfl, le_rfl⟩, Or.inr ⟨rfl, hi.le⟩, Or.inl ⟨rfl, rfl⟩⟩
          have : (i0.val : ℤ) < (x.val : ℤ) := by exact_mod_cast hi
          simp [this]
        · refine ⟨f x, x, ?_, Or.inr ⟨rfl, not_lt.1 hi⟩, Or.inr ⟨rfl, le_rfl⟩, Or.inr ⟨rfl, rfl⟩⟩
          have : ¬ (i0.val : ℤ) < (x.val : ℤ) := fun h => hi (by exact_mod_cast h)
          simp [this]
      · refine ⟨f x, x, ?_, Or.inl h, Or.inr ⟨rfl, le_rfl⟩, Or.inr ⟨rfl, rfl⟩⟩
        have h1 : ¬ a < f x := not_lt.2 h.le
        have h2 : a ≠ f x := h.ne'
        simp [h1, h2]
    obtain ⟨b, k, hb, hba, hbx, hbe⟩ := hs
    obtain ⟨r, i, hr, hrb, hrL, hre⟩ := ih b k
    refine ⟨r, i, ?_, ?_, ?_, ?_⟩
    · rw [List.map_cons, List.foldl_cons, hb]; exact hr
    · rcases hrb with h | ⟨h, h'⟩ <;> rcases hba with g | ⟨g, g'⟩
      · exact Or.inl (h.trans g)
      · exact Or.inl (g ▸ h)
      · exact Or.inl (h ▸ g)
      · exact Or.inr ⟨h.trans g, h'.trans g'⟩
    · intro e he
      rcases List.mem_cons.1 he with rfl | he
      · rcases hrb with h | ⟨h, h'⟩ <;> rcases hbx with g | ⟨g, g'⟩
        · exact Or.inl (h.trans g)
        · exact Or.inl (g ▸ h)
        · exact Or.inl (h ▸ g)
        · exact Or.inr ⟨h.trans g, h'.trans g'⟩
      · exact hrL e he
    · rcases hre with ⟨h, h'⟩ | h
      · rcases hbe with ⟨g, g'⟩ | ⟨g, g'⟩
        · exact Or.inl ⟨h.trans g, h'.trans g'⟩
        · refine Or.inr ?_
          rw [h, g, h', g']
      · exact Or.inr h

/-- Over a list that holds every index, started at `⊤` and index 0, the fold finds the first smallest index. -/
theorem foldl_stepPair_eq (f : Fin 1024 → EReal) (L : List (Fin 1024)) (hL : ∀ e, e ∈ L) :
    ((L.map fun e => (f e, BitVec.ofNat 32 e.val)).foldl stepPair (⊤, 0#32)).2 = BitVec.ofNat 32 (first f).val := by
  obtain ⟨r, i, hr, hra, hrL, hre⟩ := foldl_stepPair f L ⊤ 0
  rw [show (0#32 : BitVec 32) = BitVec.ofNat 32 (0 : Fin 1024).val from rfl, hr]
  have hfi : r = f i := by
    rcases hre with ⟨h, h'⟩ | h
    · rcases hrL i (hL i) with g | ⟨g, -⟩
      · exact absurd (h ▸ g) not_top_lt
      · exact g
    · exact h
  have hi : IsFirst f i := by
    refine ⟨fun j => ?_, fun j hj => ?_⟩
    · rcases hrL j (hL j) with g | ⟨g, -⟩
      · exact hfi ▸ g.le
      · exact hfi ▸ g.le
    · rcases hrL j (hL j) with g | ⟨-, g⟩
      · exact absurd (hj.trans hfi.symm ▸ g) (lt_irrefl _)
      · exact g
  rw [eq_first hi]

end Cert.Spec
-- ==== Proof.Rows.lean ====
/- The arithmetic of one row and one code, over the extended reals and, for finite entries, over the reals: their distance, the step
   from the row to the code, the same step with a small number added to the norm it divides by, and the loss. -/
module

public import Idealize.ShloMosaic.Lib.Pointwise
public import proofs.«01_k».proof.Proof.Nearest
public import Mathlib.Algebra.BigOperators.Fin
public import Mathlib.Analysis.Real.Sqrt
public import Mathlib.Tactic.FieldSimp
public import Mathlib.Tactic.Linarith
public import Mathlib.Tactic.Ring
public import Mathlib.Tactic.NormNum
public import Mathlib.Tactic.Positivity

@[expose] public section

namespace Cert.Spec

open Idealize.ShloMosaic
open scoped BigOperators

/-- The distance between a row and a code, from their squares and their product, floored at zero under the root. -/
noncomputable def rowDist (z w : Fin 256 → EReal) : EReal :=
  Ideal.sqrt (max ((∑ k, z k * z k) + (∑ k, w k * w k) - 2 * ∑ k, z k * w k) 0)

/-- The index of the code nearest to a row, the first of several. -/
noncomputable def near (z : Fin 256 → EReal) (W : Fin 1024 → Fin 256 → EReal) : Fin 1024 := first fun e => rowDist z (W e)

/-- The literal 2. -/
theorem lit_two : Ideal.ofBits .f32 1073741824#32 = 2 := by
  simp [Ideal.ofBits, Ideal.ieee]
  rw [← EReal.coe_mul]
  show _ = ((2 : ℝ) : EReal)
  norm_num
/-- The literal 1/4. -/
theorem lit_quarter : Ideal.ofBits .f32 1048576000#32 = ((1 / 4 : ℝ) : EReal) := by
  simp [Ideal.ofBits, Ideal.ieee]
  rw [← EReal.coe_mul]
  norm_num
/-- The literal 1179648, the number of entries. -/
theorem lit_count : Ideal.ofBits .f32 1234173952#32 = ((1179648 : ℝ) : EReal) := by
  simp [Ideal.ofBits, Ideal.ieee]
  rw [← EReal.coe_mul]
  norm_num
/-- The literal +∞. -/
theorem lit_top : Ideal.ofBits .f32 2139095040#32 = ⊤ := by
  simp [Ideal.ofBits, Ideal.ieee]
/-- The guard's literal is a positive real. -/
theorem lit_guard : ∃ ε : ℝ, 0 < ε ∧ Ideal.ofBits .f32 841731191#32 = (ε : EReal) := by
  refine ⟨_, ?_, by simp [Ideal.ofBits, Ideal.ieee]; rfl⟩
  norm_num

/-- Twice a sum is the sum of the doubled factors' products. -/
theorem sum_two_mul (z w : Fin 256 → EReal) : ∑ k, 2 * z k * w k = 2 * ∑ k, z k * w k := by
  have h : ∀ s : Finset (Fin 256), ∑ k ∈ s, 2 * z k * w k = 2 * ∑ k ∈ s, z k * w k := by
    intro s
    induction s using Finset.induction_on with
    | empty => simp
    | insert a s ha ih =>
      rw [Finset.sum_insert ha, Finset.sum_insert ha, ih, mul_assoc,
        EReal.left_distrib_of_nonneg_of_ne_top (by norm_num) (by exact_mod_cast EReal.coe_ne_top 2)]
  exact h Finset.univ

/-- A sum of reals, read in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The square of the distance between two real rows. -/
noncomputable def gap (z w : Fin 256 → ℝ) : ℝ := ∑ k, (w k - z k) * (w k - z k)

/-- It is not negative. -/
theorem gap_nonneg (z w : Fin 256 → ℝ) : 0 ≤ gap z w := Finset.sum_nonneg fun _ _ => mul_self_nonneg _

/-- The root of a nonnegative real. -/
theorem sqrt_coe {r : ℝ} (h : 0 ≤ r) : Ideal.sqrt (r : EReal) = (Real.sqrt r : EReal) := by
  show (if r < 0 then (⊥ : EReal) else _) = _
  rw [if_neg (not_lt.2 h)]

/-- The sum of the squared differences of two real rows, in the extended reals. -/
theorem sum_sq_coe (z w : Fin 256 → ℝ) :
    ∑ k, ((w k : EReal) - (z k : EReal)) * ((w k : EReal) - (z k : EReal)) = (gap z w : EReal) := by
  unfold gap
  rw [coe_sum]
  refine Finset.sum_congr rfl fun k _ => ?_
  rw [EReal.coe_mul, EReal.coe_sub]

/-- For real entries the distance is the root of the sum of the squared differences. -/
theorem dist_coe (z w : Fin 256 → ℝ) :
    rowDist (fun k => (z k : EReal)) (fun k => (w k : EReal)) = (Real.sqrt (gap z w) : EReal) := by
  have h : (∑ k, (z k : EReal) * (z k : EReal)) + (∑ k, (w k : EReal) * (w k : EReal)) - 2 * ∑ k, (z k : EReal) * (w k : EReal)
      = (gap z w : EReal) := by
    have e : gap z w = (∑ k, z k * z k) + (∑ k, w k * w k) - 2 * ∑ k, z k * w k := by
      unfold gap
      rw [Finset.mul_sum, ← Finset.sum_add_distrib, ← Finset.sum_sub_distrib]
      exact Finset.sum_congr rfl fun k _ => by ring
    rw [e, EReal.coe_sub, EReal.coe_add, EReal.coe_mul, coe_sum, coe_sum, coe_sum]
    simp only [EReal.coe_mul]
    rfl
  unfold rowDist
  rw [h, max_eq_left (by exact_mod_cast gap_nonneg z w), sqrt_coe (gap_nonneg z w)]

/-- The square of that distance. -/
theorem dist_sq_coe (z w : Fin 256 → ℝ) :
    rowDist (fun k => (z k : EReal)) (fun k => (w k : EReal)) * rowDist (fun k => (z k : EReal)) (fun k => (w k : EReal))
      = (gap z w : EReal) := by
  rw [dist_coe, ← EReal.coe_mul, Real.mul_self_sqrt (gap_nonneg z w)]

/-- A quotient of reals by a real that is not zero. -/
theorem div_coe_of_ne {a b : ℝ} (h : b ≠ 0) : Ideal.div (a : EReal) (b : EReal) = ((a / b : ℝ) : EReal) := by
  unfold Ideal.div
  rw [if_neg (by exact_mod_cast h), div_eq_mul_inv, EReal.coe_mul, EReal.coe_inv]

/-- Moving a row by its distance to a code along the direction to it reaches the code. -/
theorem step_eq (z w : Fin 256 → ℝ) (k : Fin 256) :
    (z k : EReal) + (Real.sqrt (gap z w) : EReal)
        * Ideal.div ((w k : EReal) - (z k : EReal))
            (if (Real.sqrt (gap z w) : EReal) = 0 then 1 else (Real.sqrt (gap z w) : EReal))
      = (w k : EReal) := by
  by_cases h : Real.sqrt (gap z w) = 0
  · have hg : gap z w = 0 := (Real.sqrt_eq_zero (gap_nonneg z w)).1 h
    have hk : w k - z k = 0 := by
      have := (Finset.sum_eq_zero_iff_of_nonneg (fun k _ => mul_self_nonneg (w k - z k))).1 hg k (Finset.mem_univ _)
      exact mul_self_eq_zero.1 this
    have hz : w k = z k := sub_eq_zero.1 hk
    rw [h]
    simp [hz]
  · rw [if_neg (by exact_mod_cast h), ← EReal.coe_sub, div_coe_of_ne h, ← EReal.coe_mul, ← EReal.coe_add]
    congr 1
    field_simp
    ring

/-- One entry's difference is at most the distance. -/
theorem abs_le_sqrt_gap (z w : Fin 256 → ℝ) (k : Fin 256) : |w k - z k| ≤ Real.sqrt (gap z w) := by
  refine Real.abs_le_sqrt ?_
  rw [sq]
  exact Finset.single_le_sum (f := fun k => (w k - z k) * (w k - z k)) (fun k _ => mul_self_nonneg _) (Finset.mem_univ k)

/-- With a positive `ε` added to the norm that is divided by, the step ends within `ε` of the code in every entry. -/
theorem step_near {ε : ℝ} (hε : 0 < ε) (z w : Fin 256 → ℝ) (k : Fin 256) :
    max ((w k : EReal) - ((z k : EReal) + (Real.sqrt (gap z w) : EReal)
          * Ideal.div ((w k : EReal) - (z k : EReal)) ((Real.sqrt (gap z w) : EReal) + (ε : EReal))))
        (-((w k : EReal) - ((z k : EReal) + (Real.sqrt (gap z w) : EReal)
          * Ideal.div ((w k : EReal) - (z k : EReal)) ((Real.sqrt (gap z w) : EReal) + (ε : EReal)))))
      ≤ (ε : EReal) := by
  set n := Real.sqrt (gap z w) with hn
  have hn0 : 0 ≤ n := Real.sqrt_nonneg _
  have hd : |w k - z k| ≤ n := abs_le_sqrt_gap z w k
  have hp : 0 < n + ε := by linarith
  rw [← EReal.coe_add, ← EReal.coe_sub, div_coe_of_ne hp.ne', ← EReal.coe_mul, ← EReal.coe_add, ← EReal.coe_sub, ← EReal.coe_neg,
    max_le_iff, EReal.coe_le_coe_iff, EReal.coe_le_coe_iff, ← abs_le']
  have e : w k - (z k + n * ((w k - z k) / (n + ε))) = (w k - z k) * (ε / (n + ε)) := by
    field_simp
    ring
  rw [e, abs_mul, abs_of_pos (div_pos hε hp), mul_div_assoc', div_le_iff₀ hp]
  nlinarith

/-- The scaled sums of four quarters of the rows add up to the mean square plus a quarter of it. -/
theorem loss_eq (D : Fin 4608 → ℝ) (S : Fin 4 → ℝ)
    (hS : ∀ t, S t = ∑ p : Fin 1152, D ⟨1152 * t.val + p.val, by have := t.isLt; have := p.isLt; omega⟩) :
    (((((0 : EReal) + (S 0 : EReal) * ((5 / 4718592 : ℝ) : EReal)) + (S 1 : EReal) * ((5 / 4718592 : ℝ) : EReal))
        + (S 2 : EReal) * ((5 / 4718592 : ℝ) : EReal)) + (S 3 : EReal) * ((5 / 4718592 : ℝ) : EReal))
      = Ideal.div ((∑ p, D p : ℝ) : EReal) ((1179648 : ℝ) : EReal)
        + ((1 / 4 : ℝ) : EReal) * Ideal.div ((∑ p, D p : ℝ) : EReal) ((1179648 : ℝ) : EReal) := by
  have hsum : ∑ p, D p = S 0 + S 1 + S 2 + S 3 := by
    rw [← Fin.sum_univ_four, ← (finProdFinEquiv (m := 4) (n := 1152)).sum_comp, Fintype.sum_prod_type]
    refine Finset.sum_congr rfl fun t _ => ?_
    rw [hS]
    refine Finset.sum_congr rfl fun p _ => ?_
    congr 1
    exact Fin.ext (by simp [finProdFinEquiv]; omega)
  rw [div_coe_of_ne (by norm_num), hsum, zero_add]
  simp only [← EReal.coe_mul, ← EReal.coe_add]
  congr 1
  ring

end Cert.Spec
-- ==== Proof.BlockValue.lean ====
/- The terms of one call of the kernel's body, read at an index over the extended reals: the distances of a block's rows to the
   codes, the index of the nearest code, the code itself and the block's part of the loss. -/
module

public import proofs.«01_k».proof.Proof.Gen.KernelIdeal.Skeleton
public import proofs.«01_k».proof.Proof.Rows

@[expose] public section

namespace Cert.KernelIdeal.Value

open Cert.KernelIdeal Cert.KernelIdeal.Gen Idealize.ShloMosaic Cert.Spec

/-- The scale's constant at the extended reals. -/
theorem scale_eq : (Named.named (F := Ideal) (φ := .f32) κ "scale" 898513124#32 : EReal) = ((5 / 4718592 : ℝ) : EReal) :=
  have h : κ "scale" = some ((5 / 4718592 : ℝ) : EReal) := by simp [κ]
  IdealRules.named_const.ideal_named_scalar (φ := .f32) κ "scale" 898513124#32 ((5 / 4718592 : ℝ) : EReal) h

variable (x0 : Vec Ideal S1152x256 .f32) (x1 : Vec Ideal S1024x256 .f32) (x2 : Vec Ideal S1024x256 .bf16)
  (x3 : Vec Ideal S1152x1 .f32) (x4 : Vec Ideal S1x1024 .f32)

/-- Row `p` of a block of rows. -/
abbrev blockRow (p : Fin 1152) : Fin 256 → EReal := fun k => x0 (ix2 p k)
/-- The codes as rows. -/
abbrev codeRows : Fin 1024 → Fin 256 → EReal := fun e k => x1 (ix2 e k)

/-- Given the sums of squares, the distances are the specification's. -/
theorem pay2_apply (h3 : ∀ p, x3 (ix2 p 0) = ∑ k : Fin 256, x0 (ix2 p k) * x0 (ix2 p k))
    (h4 : ∀ e, x4 (ix2 0 e) = ∑ k : Fin 256, x1 (ix2 e k) * x1 (ix2 e k)) (p : Fin 1152) (e : Fin 1024) :
    k0_pay2 x0 x1 x3 x4 (ix2 p e) = rowDist (blockRow x0 p) (codeRows x1 e) := by
  unfold k0_pay2
  pointwise
  unfold rowDist
  rw [h3, h4, lit_two]

/-- Their minimum over the codes is the distance to the nearest one. -/
theorem pay3_apply (h3 : ∀ p, x3 (ix2 p 0) = ∑ k : Fin 256, x0 (ix2 p k) * x0 (ix2 p k))
    (h4 : ∀ e, x4 (ix2 0 e) = ∑ k : Fin 256, x1 (ix2 e k) * x1 (ix2 e k)) (p : Fin 1152) :
    k0_pay3 x0 x1 x3 x4 (ix2 p 0)
      = rowDist (blockRow x0 p) (codeRows x1 (near (blockRow x0 p) (codeRows x1))) := by
  unfold k0_pay3
  pointwise
  rw [lit_top]
  simp only [pay2_apply x0 x1 x3 x4 h3 h4]
  exact fold_min_eq fun e => rowDist (blockRow x0 p) (codeRows x1 e)

/-- The smallest index whose distance is that minimum is the nearest code's. -/
theorem pay4_apply (h3 : ∀ p, x3 (ix2 p 0) = ∑ k : Fin 256, x0 (ix2 p k) * x0 (ix2 p k))
    (h4 : ∀ e, x4 (ix2 0 e) = ∑ k : Fin 256, x1 (ix2 e k) * x1 (ix2 e k)) (p : Fin 1152) :
    k0_pay4 x0 x1 x3 x4 (ix1 p) = BitVec.ofNat 32 (near (blockRow x0 p) (codeRows x1)).val := by
  unfold k0_pay4
  pointwise
  simp only [pay2_apply x0 x1 x3 x4 h3 h4, pay3_apply x0 x1 x3 x4 h3 h4]
  exact fold_index_eq fun e => rowDist (blockRow x0 p) (codeRows x1 e)

/-- The block of indices holds them. -/
theorem pay5_apply (h3 : ∀ p, x3 (ix2 p 0) = ∑ k : Fin 256, x0 (ix2 p k) * x0 (ix2 p k))
    (h4 : ∀ e, x4 (ix2 0 e) = ∑ k : Fin 256, x1 (ix2 e k) * x1 (ix2 e k)) (p : Fin 1152) :
    k0_pay5 x0 x1 x3 x4 (ix3 0 0 p) = BitVec.ofNat 32 (near (blockRow x0 p) (codeRows x1)).val := by
  unfold k0_pay5
  pointwise
  exact pay4_apply x0 x1 x3 x4 h3 h4 p

/-- A comparison of two words below 1024, as a number: one where they are the same, zero elsewhere. -/
theorem hot_eq (a b : Fin 1024) :
    (FloatOps.sitofp (F := Ideal) .f32 (BitVec.setWidth 32 (IntOp.cmpi .eq (BitVec.ofNat 32 a.val) (BitVec.ofNat 32 b.val))) : EReal)
      = if a = b then 1 else 0 := by
  have ha := a.isLt
  have hb := b.isLt
  show (((BitVec.setWidth 32 (IntOp.cmpi .eq (BitVec.ofNat 32 a.val) (BitVec.ofNat 32 b.val))).toInt : ℝ) : EReal) = _
  by_cases h : a = b
  · subst h
    rw [if_pos rfl, show IntOp.cmpi .eq (BitVec.ofNat 32 a.val) (BitVec.ofNat 32 a.val) = 1#1 by simp [IntOp.cmpi]]
    simp
  · have hne : BitVec.ofNat 32 a.val ≠ BitVec.ofNat 32 b.val := fun e => h (Fin.ext (by
      have := congrArg BitVec.toNat e
      simp only [BitVec.toNat_ofNat] at this
      omega))
    rw [if_neg h, show IntOp.cmpi .eq (BitVec.ofNat 32 a.val) (BitVec.ofNat 32 b.val) = 0#1 by
      show BitVec.ofBool (BitVec.ofNat 32 a.val == BitVec.ofNat 32 b.val) = 0#1
      rw [beq_eq_false_iff_ne.2 hne]; rfl]
    simp

/-- The product of the one-hot rows and the codes is the nearest code. -/
theorem pay6_apply (h3 : ∀ p, x3 (ix2 p 0) = ∑ k : Fin 256, x0 (ix2 p k) * x0 (ix2 p k))
    (h4 : ∀ e, x4 (ix2 0 e) = ∑ k : Fin 256, x1 (ix2 e k) * x1 (ix2 e k)) (p : Fin 1152) (k : Fin 256) :
    k0_pay6 x0 x1 x3 x4 x2 (ix2 p k) = x2 (ix2 (near (blockRow x0 p) (codeRows x1)) k) := by
  unfold k0_pay6
  pointwise
  simp only [pay4_apply x0 x1 x3 x4 h3 h4, hot_eq]
  rw [Finset.sum_eq_single (near (blockRow x0 p) (codeRows x1))]
  · simp
  · intro b _ hb
    rw [if_neg hb, zero_mul]
  · intro h
    exact absurd (Finset.mem_univ _) h

/-- The loss after a block: what it was, and the scaled sum of the squares of a column. -/
theorem pay1_apply (v : FVec Ideal S1152x1 .f32) (s : EReal) :
    k0_pay1 v s = s + (∑ p : Fin 1152, v (ix2 p 0) * v (ix2 p 0)) * ((5 / 4718592 : ℝ) : EReal) := by
  unfold k0_pay1
  pointwise
  rw [scale_eq]
  simp

end Cert.KernelIdeal.Value
-- ==== Proof.KernelInputs.lean ====
/- What the kernel's calls read: the host's prefix (the flattened input, the sums of squares, the codes), and the blocks of it that
   each grid point's windows hold. -/
module

public import proofs.«01_k».proof.Proof.Gen.KernelIdeal.Frame
public import proofs.«01_k».proof.Proof.BlockValue
public import Idealize.ShloMosaic.Lib.Pipeline.Value
public import Idealize.ShloMosaic.Lib.StableHlo.Run

@[expose] public section

noncomputable section

namespace Cert.KernelIdeal.Value

open Cert.KernelIdeal Cert.KernelIdeal.Gen Idealize.ShloMosaic Idealize.ShloMosaic.TcCoe Idealize.SL.Sem Cert.Spec

variable (m : (ℓ : Loc nD τ sig) → Buf (Elt Ideal) ℓ)

/-- The input as 4608 rows of 256. -/
def zf (c : Dev nD) : Vec Ideal S4608x256 .f32 :=
  shapeCast S4608x256 (m ((c.tc : Thread nD τ).loc main_arg0) : Vec Ideal S8x576x256 .f32) shapeCasts_S8x576x256_S4608x256
/-- The sums of squares of the rows, as a column. -/
def sqCol (v : FVec Ideal S4608x256 .f32) : FVec Ideal S4608x1 .f32 :=
  broadcastInDim S4608x1 ![0] bcast_S4608_S4608x1_0
    (Host.reduceAdd (F := Ideal) (mulf v v) (constant S_ .f32 0x00000000#32) reducesTo_S4608x256_S4608_d1 h_S_)
/-- The sums of squares of the codes, as a row. -/
def sqRow (w : FVec Ideal S1024x256 .f32) : FVec Ideal S1x1024 .f32 :=
  shapeCast S1x1024 (Host.reduceAdd (F := Ideal) (mulf w w) (constant S_ .f32 0x00000000#32) reducesTo_S1024x256_S1024_d1 h_S_)
    shapeCasts_S1024_S1x1024
/-- The codes. -/
def wf (c : Dev nD) : Vec Ideal S1024x256 .f32 := m ((c.tc : Thread nD τ).loc main_arg1)

set_option maxRecDepth 8192 in
set_option maxHeartbeats 4000000 in
/-- The prefix leaves the flattened input, -/
theorem V_v0 (c : Dev nD) : V m c main_v0 = zf m c := by
  show StableHlo.after (List.flatten [hostOps0]) (fun b => m (c, b)) (Proc.devRef .tc main_v0) = _
  rw [List.flatten_cons, List.flatten_nil, List.append_nil]
  simp only [hostOps0]; after_results_simp <;> rfl

set_option maxRecDepth 8192 in
set_option maxHeartbeats 4000000 in
/-- the sums of squares of its rows, -/
theorem V_v3 (c : Dev nD) : V m c main_v3 = sqCol (zf m c) := by
  show StableHlo.after (List.flatten [hostOps0]) (fun b => m (c, b)) (Proc.devRef .tc main_v3) = _
  rw [List.flatten_cons, List.flatten_nil, List.append_nil]
  simp only [hostOps0]; after_results_simp <;> rfl

set_option maxRecDepth 8192 in
set_option maxHeartbeats 4000000 in
/-- the sums of squares of the codes, -/
theorem V_v6 (c : Dev nD) : V m c main_v6 = sqRow (wf m c) := by
  show StableHlo.after (List.flatten [hostOps0]) (fun b => m (c, b)) (Proc.devRef .tc main_v6) = _
  rw [List.flatten_cons, List.flatten_nil, List.append_nil]
  simp only [hostOps0]; after_results_simp <;> rfl

set_option maxRecDepth 8192 in
set_option maxHeartbeats 4000000 in
/-- and the codes in the narrower format. -/
theorem V_v7 (c : Dev nD) : V m c main_v7 = (truncf .bf16 (wf m c) bitsLt_bf16_f32 : FVec Ideal S1024x256 .bf16) := by
  show StableHlo.after (List.flatten [hostOps0]) (fun b => m (c, b)) (Proc.devRef .tc main_v7) = _
  rw [List.flatten_cons, List.flatten_nil, List.append_nil]
  simp only [hostOps0]; after_results_simp <;> rfl

/-- Row `p` of grid point `t`'s block, as a row of the input. -/
def rowOf (t : Fin cfg0.N) (p : Fin 1152) : Fin 4608 :=
  ⟨1152 * t.val + p.val, by
    have h : t.val < 4 := N_0 ▸ t.isLt
    have := p.isLt
    omega⟩

/-- Window 0's block at a grid point: that point's rows. -/
theorem iblk0_apply (c : Dev nD) (t : Fin cfg0.N) (p : Fin 1152) (k : Fin 256) :
    (iblk m c 0 t : Vec Ideal S1152x256 .f32) (ix2 p k) = zf m c (ix2 (rowOf t p) k) := by
  have hi : win0_0.index t 0 = t.val ∧ win0_0.index t 1 = 0 := by
    rcases fin_N0 t with rfl | rfl | rfl | rfl <;> decide
  unfold iblk
  rw [View.read_apply]
  refine (congrFun (V_v0 m c) _).trans ?_
  congr 1
  funext a
  apply Fin.ext
  match a with
  | ⟨0, _⟩ => show win0_0.index t 0 * 1152 + 1 * p.val = 1152 * t.val + p.val; rw [hi.1]; omega
  | ⟨1, _⟩ => show win0_0.index t 1 * 256 + 1 * k.val = k.val; rw [hi.2]; omega

/-- Window 1's block: the codes. -/
theorem iblk1_apply (c : Dev nD) (t : Fin cfg0.N) (e : Fin 1024) (k : Fin 256) :
    (iblk m c 1 t : Vec Ideal S1024x256 .f32) (ix2 e k) = wf m c (ix2 e k) := by
  have hi : win0_1.index t 0 = 0 ∧ win0_1.index t 1 = 0 := by
    rcases fin_N0 t with rfl | rfl | rfl | rfl <;> decide
  unfold iblk
  rw [View.read_apply]
  refine (congrFun (V_main_arg1 m c) _).trans ?_
  unfold wf
  congr 1
  funext a
  apply Fin.ext
  match a with
  | ⟨0, _⟩ => show win0_1.index t 0 * 1024 + 1 * e.val = e.val; rw [hi.1]; omega
  | ⟨1, _⟩ => show win0_1.index t 1 * 256 + 1 * k.val = k.val; rw [hi.2]; omega

/-- Window 2's block: the codes again. -/
theorem iblk2_apply (c : Dev nD) (t : Fin cfg0.N) (e : Fin 1024) (k : Fin 256) :
    (iblk m c 2 t : Vec Ideal S1024x256 .bf16) (ix2 e k) = wf m c (ix2 e k) := by
  have hi : win0_2.index t 0 = 0 ∧ win0_2.index t 1 = 0 := by
    rcases fin_N0 t with rfl | rfl | rfl | rfl <;> decide
  unfold iblk
  rw [View.read_apply]
  refine (congrFun (V_v7 m c) _).trans ?_
  show wf m c _ = _
  congr 1
  funext a
  apply Fin.ext
  match a with
  | ⟨0, _⟩ => show win0_2.index t 0 * 1024 + 1 * e.val = e.val; rw [hi.1]; omega
  | ⟨1, _⟩ => show win0_2.index t 1 * 256 + 1 * k.val = k.val; rw [hi.2]; omega

/-- The sum of squares of a row, as the host computes it. -/
theorem sq_col (v : FVec Ideal S4608x256 .f32) (r : Fin 4608) :
    sqCol v (ix2 r 0) = ∑ k : Fin 256, v (ix2 r k) * v (ix2 r k) := by
  unfold sqCol
  pointwise

/-- The sum of squares of a code, as the host computes it. -/
theorem sq_row (w : FVec Ideal S1024x256 .f32) (e : Fin 1024) :
    sqRow w (ix2 0 e) = ∑ k : Fin 256, w (ix2 e k) * w (ix2 e k) := by
  unfold sqRow
  pointwise

/-- Window 3's block: the sums of squares of that point's rows. -/
theorem iblk3_apply (c : Dev nD) (t : Fin cfg0.N) (p : Fin 1152) :
    (iblk m c 3 t : Vec Ideal S1152x1 .f32) (ix2 p 0) = ∑ k : Fin 256, zf m c (ix2 (rowOf t p) k) * zf m c (ix2 (rowOf t p) k) := by
  have hi : win0_3.index t 0 = t.val ∧ win0_3.index t 1 = 0 := by
    rcases fin_N0 t with rfl | rfl | rfl | rfl <;> decide
  rw [← sq_col]
  unfold iblk
  rw [View.read_apply]
  refine (congrFun (V_v3 m c) _).trans ?_
  refine congrArg _ ?_
  funext a
  apply Fin.ext
  match a with
  | ⟨0, _⟩ => show win0_3.index t 0 * 1152 + 1 * p.val = 1152 * t.val + p.val; rw [hi.1]; omega
  | ⟨1, _⟩ => show win0_3.index t 1 * 1 + 1 * 0 = 0; rw [hi.2]

/-- Window 4's block: the sums of squares of the codes. -/
theorem iblk4_apply (c : Dev nD) (t : Fin cfg0.N) (e : Fin 1024) :
    (iblk m c 4 t : Vec Ideal S1x1024 .f32) (ix2 0 e) = ∑ k : Fin 256, wf m c (ix2 e k) * wf m c (ix2 e k) := by
  have hi : win0_4.index t 0 = 0 ∧ win0_4.index t 1 = 0 := by
    rcases fin_N0 t with rfl | rfl | rfl | rfl <;> decide
  rw [← sq_row]
  unfold iblk
  rw [View.read_apply]
  refine (congrFun (V_v6 m c) _).trans ?_
  refine congrArg _ ?_
  funext a
  apply Fin.ext
  match a with
  | ⟨0, _⟩ => show win0_4.index t 0 * 1 + 1 * 0 = 0; rw [hi.1]
  | ⟨1, _⟩ => show win0_4.index t 1 * 1024 + 1 * e.val = e.val; rw [hi.2]; omega

end Cert.KernelIdeal.Value
-- ==== Proof.KernelArrays.lean ====
/- What the kernel's three result arrays hold after the last grid point: each row's nearest code, its index, and the scaled sum of
   the squared distances, added up one block after another. -/
module

public import proofs.«01_k».proof.Proof.KernelBlocks
public import proofs.«01_k».proof.Proof.KernelInputs

@[expose] public section

noncomputable section

namespace Cert.KernelIdeal.Value

open Cert.KernelIdeal Cert.KernelIdeal.Gen Idealize.ShloMosaic Idealize.ShloMosaic.TcCoe Idealize.SL.Sem Cert.Spec
open Idealize.ShloMosaic.Pipeline (Dat)

variable (m : (ℓ : Loc nD τ sig) → Buf (Elt Ideal) ℓ)

/-- Row `r` of the input. -/
def zrow (c : Dev nD) (r : Fin 4608) : Fin 256 → EReal := fun k => zf m c (ix2 r k)
/-- The index of the code nearest to row `r`. -/
def nearest (c : Dev nD) (r : Fin 4608) : Fin 1024 := near (zrow m c r) (codeRows (wf m c))
/-- Row `r`'s distance to it. -/
def mindist (c : Dev nD) (r : Fin 4608) : EReal := rowDist (zrow m c r) (codeRows (wf m c) (nearest m c r))
/-- What one grid point adds to the loss. -/
def part (c : Dev nD) (t : Fin cfg0.N) : EReal :=
  (∑ p : Fin 1152, mindist m c (rowOf t p) * mindist m c (rowOf t p)) * ((5 / 4718592 : ℝ) : EReal)

/-- The five blocks a grid point reads, at their shapes: the rows, -/
abbrev b0 (c : Dev nD) (t : Fin cfg0.N) : FVec Ideal S1152x256 .f32 := iblk m c 0 t
/-- the codes, -/
abbrev b1 (c : Dev nD) (t : Fin cfg0.N) : FVec Ideal S1024x256 .f32 := iblk m c 1 t
/-- the codes again, -/
abbrev b2 (c : Dev nD) (t : Fin cfg0.N) : FVec Ideal S1024x256 .bf16 := iblk m c 2 t
/-- the rows' sums of squares, -/
abbrev b3 (c : Dev nD) (t : Fin cfg0.N) : FVec Ideal S1152x1 .f32 := iblk m c 3 t
/-- and the codes' sums of squares. -/
abbrev b4 (c : Dev nD) (t : Fin cfg0.N) : FVec Ideal S1x1024 .f32 := iblk m c 4 t

/-- A block's row is a row of the input, -/
theorem blockRow_eq (c : Dev nD) (t : Fin cfg0.N) (p : Fin 1152) : blockRow (b0 m c t) p = zrow m c (rowOf t p) :=
  funext fun k => iblk0_apply m c t p k
/-- the codes a point reads are the codes, -/
theorem codeRows_eq (c : Dev nD) (t : Fin cfg0.N) : codeRows (b1 m c t) = codeRows (wf m c) :=
  funext fun e => funext fun k => iblk1_apply m c t e k
/-- the column it reads holds its rows' sums of squares, -/
theorem col_eq (c : Dev nD) (t : Fin cfg0.N) (p : Fin 1152) :
    b3 m c t (ix2 p 0) = ∑ k : Fin 256, b0 m c t (ix2 p k) * b0 m c t (ix2 p k) :=
  (iblk3_apply m c t p).trans (Finset.sum_congr (M := EReal) rfl fun k _ =>
    (congrArg₂ (fun a b : EReal => a * b) (iblk0_apply m c t p k) (iblk0_apply m c t p k)).symm)
/-- and the row it reads holds the codes' sums of squares. -/
theorem row_eq (c : Dev nD) (t : Fin cfg0.N) (e : Fin 1024) :
    b4 m c t (ix2 0 e) = ∑ k : Fin 256, b1 m c t (ix2 e k) * b1 m c t (ix2 e k) :=
  (iblk4_apply m c t e).trans (Finset.sum_congr (M := EReal) rfl fun k _ =>
    (congrArg₂ (fun a b : EReal => a * b) (iblk1_apply m c t e k) (iblk1_apply m c t e k)).symm)

/-- One point's block of rows: each row's nearest code. -/
theorem rows_apply (c : Dev nD) (t : Fin cfg0.N) (p : Fin 1152) (k : Fin 256) :
    k0_pay6 (F := Ideal) (b0 m c t) (b1 m c t) (b3 m c t) (b4 m c t) (b2 m c t) (ix2 p k) = wf m c (ix2 (nearest m c (rowOf t p)) k) := by
  rw [pay6_apply _ _ _ _ _ (col_eq m c t) (row_eq m c t), blockRow_eq, codeRows_eq]
  exact iblk2_apply m c t _ k

/-- One point's block of indices. -/
theorem inds_apply (c : Dev nD) (t : Fin cfg0.N) (p : Fin 1152) :
    k0_pay5 (F := Ideal) (b0 m c t) (b1 m c t) (b3 m c t) (b4 m c t) (ix3 0 0 p) = BitVec.ofNat 32 (nearest m c (rowOf t p)).val := by
  rw [pay5_apply _ _ _ _ (col_eq m c t) (row_eq m c t), blockRow_eq, codeRows_eq]
  rfl

/-- One point's column of distances. -/
theorem dist_apply (c : Dev nD) (t : Fin cfg0.N) (p : Fin 1152) :
    k0_pay3 (F := Ideal) (b0 m c t) (b1 m c t) (b3 m c t) (b4 m c t) (ix2 p 0) = mindist m c (rowOf t p) := by
  rw [pay3_apply _ _ _ _ (col_eq m c t) (row_eq m c t), blockRow_eq, codeRows_eq]
  rfl

/-- One point's part of the loss, added to what was there. -/
theorem loss_apply (c : Dev nD) (t : Fin cfg0.N) (s : EReal) :
    k0_pay1 (F := Ideal) (k0_pay3 (F := Ideal) (b0 m c t) (b1 m c t) (b3 m c t) (b4 m c t)) s = s + part m c t := by
  rw [pay1_apply]
  unfold part
  rw [Finset.sum_congr rfl fun p _ => by rw [dist_apply m c t p]]

/-- The first point is the one whose number is divisible by 4. -/
theorem outs5 (c : Dev nD) (t : Fin cfg0.N) : (outsAt0 m c t.val t.isLt).1
    = k0_pay6 (F := Ideal) (b0 m c t) (b1 m c t) (b3 m c t) (b4 m c t) (b2 m c t) := by
  by_cases h0 : t.val % 4 = 0
  · rw [outsAt0_A m c t h0]; dsimp only; exact out_A_5 (F := Ideal) ..
  · rw [outsAt0_B m c t h0]; dsimp only; exact out_B_5 (F := Ideal) ..

/-- The indices a point leaves. -/
theorem outs6 (c : Dev nD) (t : Fin cfg0.N) : (outsAt0 m c t.val t.isLt).2.1
    = k0_pay5 (F := Ideal) (b0 m c t) (b1 m c t) (b3 m c t) (b4 m c t) := by
  by_cases h0 : t.val % 4 = 0
  · rw [outsAt0_A m c t h0]; dsimp only; exact out_A_6 (F := Ideal) ..
  · rw [outsAt0_B m c t h0]; dsimp only; exact out_B_6 (F := Ideal) ..

/-- The running loss after a point: zero, then every point's part in turn. -/
def chain (c : Dev nD) : (n : ℕ) → n < cfg0.N → EReal
  | 0, h => 0 + part m c ⟨0, h⟩
  | n + 1, h => chain c n (Nat.lt_of_succ_lt h) + part m c ⟨n + 1, h⟩

/-- The loss buffer holds the running loss. -/
theorem outs7 (c : Dev nD) : ∀ (n : ℕ) (h : n < cfg0.N), (outsAt0 m c n h).2.2 = fun _ => chain m c n h
  | 0, h => by
    have e := outsAt0_A m c ⟨0, h⟩ rfl
    dsimp only at e
    rw [e]
    dsimp only
    refine (out_A_7 (F := Ideal) ..).trans (funext fun _ => ?_)
    refine (loss_apply m c ⟨0, h⟩ _).trans ?_
    show Ideal.ofBits .f32 0x00000000#32 + _ = _
    rw [Ideal.ofBits_zero_f32]
    rfl
  | n + 1, h => by
    have hN : cfg0.N = 4 := N_0
    have hB : ¬(⟨n + 1, h⟩ : Fin cfg0.N).val % 4 = 0 := by dsimp only; omega
    have e := outsAt0_B m c ⟨n + 1, h⟩ hB
    dsimp only at e
    rw [e]
    dsimp only
    refine (out_B_7 (F := Ideal) ..).trans (funext fun _ => ?_)
    refine (loss_apply m c ⟨n + 1, h⟩ _).trans ?_
    show (outsAt0 m c n _).2.2 o0 + _ = chain m c n _ + _
    rw [outs7 c n]

/-- The array of rows at the end. -/
def zqArr (c : Dev nD) : Vec Ideal S4608x256 .f32 := fun i => wf m c (ix2 (nearest m c (i 0)) (i 1))
/-- The array of indices at the end. -/
def idxArr (c : Dev nD) : IVec S4x1x1152 32 := fun i =>
  BitVec.ofNat 32 (nearest m c (rowOf ⟨(i 0).val, lt_of_lt_of_eq (i 0).isLt N_0.symm⟩ ⟨(i 2).val, (i 2).isLt⟩)).val
/-- The loss array at the end. -/
def sseArr (c : Dev nD) : Vec Ideal S1x1 .f32 := fun _ => chain m c 3 (by rw [show cfg0.N = 4 from N_0]; decide)

/-- Where a point's rows lie, -/
theorem at5 : ∀ t : Fin cfg0.N, win0_5.index t 0 = t.val ∧ win0_5.index t 1 = 0 :=
  (by decide +kernel : ∀ t : Fin grid0.N, win0_5.index t 0 = t.val ∧ win0_5.index t 1 = 0)
/-- and where its indices lie. -/
theorem at6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)

/-- What a point writes back of the rows is its part of the array. -/
theorem flushed5 (c : Dev nD) (t : Fin cfg0.N) (_ : (cfg0.win 5).flush t = true) :
    (dats m 0 c).flushed 5 t = ((cfg0.win 5).blk t).view.read (Elt Ideal) (zqArr m c) := by
  have hi := at5 t
  show (cfg0.win 5).cut (grid0.coords t) ((dats m 0 c).after 5 t) = _
  rw [after0_5, outs5]
  funext j
  rw [View.read_apply]
  have hj : (j : S1152x256.Idx) = ix2 (j 0) (j 1) := eq_ix2 j
  refine ((congrArg _ hj).trans (rows_apply m c t (j 0) (j 1))).trans ?_
  refine congrArg₂ (fun (r : Fin 4608) (k : Fin 256) => wf m c (ix2 (nearest m c r) k)) (Fin.ext ?_) (Fin.ext ?_)
  · show 1152 * t.val + (j 0).val = win0_5.index t 0 * 1152 + 1 * (j 0).val
    rw [hi.1]; omega
  · show (j 1).val = win0_5.index t 1 * 256 + 1 * (j 1).val
    rw [hi.2]; omega

/-- What a point writes back of the indices is its part of the array. -/
theorem flushed6 (c : Dev nD) (t : Fin cfg0.N) (_ : (cfg0.win 6).flush t = true) :
    (dats m 0 c).flushed 6 t = ((cfg0.win 6).blk t).view.read (Elt Ideal) (idxArr m c) := by
  have hi := at6 t
  show (cfg0.win 6).cut (grid0.coords t) ((dats m 0 c).after 6 t) = _
  rw [after0_6, outs6]
  funext j
  rw [View.read_apply]
  have h0 : (j 0).val = 0 := Nat.lt_one_iff.mp (j 0).isLt
  have h1 : (j 1).val = 0 := Nat.lt_one_iff.mp (j 1).isLt
  have hj : (j : S1x1x1152.Idx) = ix3 0 0 (j 2) := by
    funext a
    match a with
    | ⟨0, _⟩ => exact Fin.ext h0
    | ⟨1, _⟩ => exact Fin.ext h1
    | ⟨2, _⟩ => rfl
  refine ((congrArg _ hj).trans (inds_apply m c t (j 2))).trans ?_
  show _ = BitVec.ofNat 32 (nearest m c _).val
  congr 3
  apply Fin.ext
  show 1152 * t.val + (j 2).val = 1152 * (win0_6.index t 0 * 1 + 1 * (j 0).val) + (win0_6.index t 2 * 1152 + 1 * (j 2).val)
  rw [hi.1, hi.2.2, h0]; omega

/-- What the last point writes back of the loss is the whole array. -/
theorem flushed7 (c : Dev nD) (t : Fin cfg0.N) (hf : (cfg0.win 7).flush t = true) :
    (dats m 0 c).flushed 7 t = ((cfg0.win 7).blk t).view.read (Elt Ideal) (sseArr m c) := by
  have hN : cfg0.N = 4 := N_0
  have h3 : t.val = 3 := by have := (flush0_7 t).mp hf; have := t.isLt; omega
  show (cfg0.win 7).cut (grid0.coords t) ((dats m 0 c).after 7 t) = _
  rw [after0_7, outs7]
  funext j
  rw [View.read_apply]
  show chain m c t.val _ = chain m c 3 _
  congr 1

end Cert.KernelIdeal.Value
-- ==== Proof.KernelFinal.lean ====
/- The kernel's three result arrays after its run: every entry is written by one grid point, so each array is the one its points'
   blocks belong to. -/
module

public import proofs.«01_k».proof.Proof.KernelArrays

@[expose] public section

noncomputable section

namespace Cert.KernelIdeal.Value

open Cert.KernelIdeal Cert.KernelIdeal.Gen Idealize.ShloMosaic Idealize.ShloMosaic.TcCoe Idealize.SL.Sem Cert.Spec
open Idealize.ShloMosaic.Pipeline (Dat)

variable (m : (ℓ : Loc nD τ sig) → Buf (Elt Ideal) ℓ)

/-- The grid point that writes row `r`. -/
def pointOf (n : ℕ) (h : n < 4) : Fin cfg0.N := ⟨n, lt_of_lt_of_eq h N_0.symm⟩

/-- A row block's extents, -/
theorem xs5 : ∀ t : Fin cfg0.N, win0_5.xsize (grid0.coords t) 0 = 1152 ∧ win0_5.xsize (grid0.coords t) 1 = 256 :=
  (by decide +kernel : ∀ t : Fin grid0.N, win0_5.xsize (grid0.coords t) 0 = 1152 ∧ win0_5.xsize (grid0.coords t) 1 = 256)
/-- an index block's extents, -/
theorem xs6 : ∀ t : Fin cfg0.N, win0_6.xsize (grid0.coords t) 0 = 1 ∧ win0_6.xsize (grid0.coords t) 1 = 1
    ∧ win0_6.xsize (grid0.coords t) 2 = 1152 :=
  (by decide +kernel : ∀ t : Fin grid0.N, win0_6.xsize (grid0.coords t) 0 = 1 ∧ win0_6.xsize (grid0.coords t) 1 = 1
    ∧ win0_6.xsize (grid0.coords t) 2 = 1152)

/-- The array of rows ends holding each row's nearest code. -/
theorem final5 (c : Dev nD) : (dats m 0 c).arrAt 5 cfg0.N = zqArr m c :=
  (dats m 0 c).arrAt_eq_of_cover 5 (zqArr m c) (flushed5 m c) fun i => by
    have h0 : (i 0 : Nat) < 4608 := (i 0).isLt
    have h1 : (i 1 : Nat) < 256 := (i 1).isLt
    refine ⟨pointOf ((i 0 : Nat) / 1152) (by omega), flush0_5 _, ?_⟩
    generalize ht : pointOf ((i 0 : Nat) / 1152) (by omega) = t
    have hv : t.val = (i 0 : Nat) / 1152 := by rw [← ht]; rfl
    show i ∈ ((View.whole main_v8_0).slice (win0_5.rect t)).set
    rw [View.set_slice_whole, Rect.mem_set_unit]
    intro a
    match a with
    | ⟨0, _⟩ =>
      show win0_5.index t 0 * 1152 ≤ (i 0 : Nat) ∧ (i 0 : Nat) < win0_5.index t 0 * 1152 + win0_5.xsize (grid0.coords t) 0
      rw [(at5 t).1, (xs5 t).1]; omega
    | ⟨1, _⟩ =>
      show win0_5.index t 1 * 256 ≤ (i 1 : Nat) ∧ (i 1 : Nat) < win0_5.index t 1 * 256 + win0_5.xsize (grid0.coords t) 1
      rw [(at5 t).2, (xs5 t).2]; omega

/-- The array of indices ends holding each row's index. -/
theorem final6 (c : Dev nD) : (dats m 0 c).arrAt 6 cfg0.N = idxArr m c :=
  (dats m 0 c).arrAt_eq_of_cover 6 (idxArr m c) (flushed6 m c) fun i => by
    have h0 : (i 0 : Nat) < 4 := (i 0).isLt
    have h1 : (i 1 : Nat) < 1 := (i 1).isLt
    have h2 : (i 2 : Nat) < 1152 := (i 2).isLt
    refine ⟨pointOf (i 0 : Nat) h0, flush0_6 _, ?_⟩
    generalize ht : pointOf (i 0 : Nat) h0 = t
    have hv : t.val = (i 0 : Nat) := by rw [← ht]; rfl
    show i ∈ ((View.whole main_v8_1).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + win0_6.xsize (grid0.coords t) 0
      rw [(at6 t).1, (xs6 t).1]; omega
    | ⟨1, _⟩ =>
      show win0_6.index t 1 * 1 ≤ (i 1 : Nat) ∧ (i 1 : Nat) < win0_6.index t 1 * 1 + win0_6.xsize (grid0.coords t) 1
      rw [(at6 t).2.1, (xs6 t).2.1]; omega
    | ⟨2, _⟩ =>
      show win0_6.index t 2 * 1152 ≤ (i 2 : Nat) ∧ (i 2 : Nat) < win0_6.index t 2 * 1152 + win0_6.xsize (grid0.coords t) 2
      rw [(at6 t).2.2, (xs6 t).2.2]; omega

/-- The loss array ends holding the whole running loss. -/
theorem final7 (c : Dev nD) : (dats m 0 c).arrAt 7 cfg0.N = sseArr m c :=
  (dats m 0 c).arrAt_eq_of_cover 7 (sseArr m c) (flushed7 m c) fun i => by
    have h0 : (i 0 : Nat) < 1 := (i 0).isLt
    have h1 : (i 1 : Nat) < 1 := (i 1).isLt
    refine ⟨t0_3, (flush0_7 t0_3).mpr rfl, ?_⟩
    show i ∈ ((View.whole main_v8_2).slice (win0_7.rect t0_3)).set
    rw [View.set_slice_whole, Rect.mem_set_unit]
    intro a
    match a with
    | ⟨0, _⟩ =>
      show win0_7.index t0_3 0 * 1 ≤ (i 0 : Nat) ∧ (i 0 : Nat) < win0_7.index t0_3 0 * 1 + win0_7.xsize (grid0.coords t0_3) 0
      rw [show win0_7.index t0_3 0 = 0 from by decide +kernel, show win0_7.xsize (grid0.coords t0_3) 0 = 1 from by decide +kernel]; omega
    | ⟨1, _⟩ =>
      show win0_7.index t0_3 1 * 1 ≤ (i 1 : Nat) ∧ (i 1 : Nat) < win0_7.index t0_3 1 * 1 + win0_7.xsize (grid0.coords t0_3) 1
      rw [show win0_7.index t0_3 1 = 0 from by decide +kernel, show win0_7.xsize (grid0.coords t0_3) 1 = 1 from by decide +kernel]; omega

end Cert.KernelIdeal.Value
-- ==== Proof.KernelRun.lean ====
/- The kernel's run: its three results are the final arrays in the shapes the host gives them, and its arguments end unchanged. -/
module

public import proofs.«01_k».proof.Proof.KernelFinal

@[expose] public section

noncomputable section

namespace Cert.KernelIdeal.Value

open Cert.KernelIdeal Cert.KernelIdeal.Gen Idealize.ShloMosaic Idealize.ShloMosaic.TcCoe Idealize.SL.Sem Cert.Spec
open Idealize.ShloMosaic.Pipeline (Dat)

variable (m : (ℓ : Loc nD τ sig) → Buf (Elt Ideal) ℓ)

/-- Result 1: the nearest codes in the input's shape. -/
def zqOut (c : Dev nD) : FVec Ideal S8x576x256 .f32 := shapeCast S8x576x256 (zqArr m c) shapeCasts_S4608x256_S8x576x256
/-- Result 2: the loss as a scalar. -/
def lossOut (c : Dev nD) : FVec Ideal S_ .f32 := shapeCast S_ (sseArr m c) shapeCasts_S1x1_S_
/-- Result 3: the indices in the input's leading shape. -/
def idxOut (c : Dev nD) : IVec S8x576 32 :=
  shapeCast S8x576 (shapeCast S4608 (idxArr m c) shapeCasts_S4x1x1152_S4608) shapeCasts_S4608_S8x576

/-- The lines after the kernel reshape the array of rows, -/
theorem tail_v12 (U : Valuation τ sig (Elt Ideal)) : StableHlo.after (hostOps1 (F := Ideal)) U (Proc.devRef .tc main_v12)
    = shapeCast S8x576x256 (U (Proc.devRef .tc main_v8_0) : Vec Ideal S4608x256 .f32) shapeCasts_S4608x256_S8x576x256 := by
  simp only [hostOps1]; after_results_simp <;> rfl
/-- the loss, -/
theorem tail_v11 (U : Valuation τ sig (Elt Ideal)) : StableHlo.after (hostOps1 (F := Ideal)) U (Proc.devRef .tc main_v11)
    = shapeCast S_ (U (Proc.devRef .tc main_v8_2) : Vec Ideal S1x1 .f32) shapeCasts_S1x1_S_ := by
  simp only [hostOps1]; after_results_simp <;> rfl
/-- and, in two steps, the indices. -/
theorem tail_v10 (U : Valuation τ sig (Elt Ideal)) : StableHlo.after (hostOps1 (F := Ideal)) U (Proc.devRef .tc main_v10)
    = shapeCast S8x576 (shapeCast S4608 (U (Proc.devRef .tc main_v8_1) : IVec S4x1x1152 32) shapeCasts_S4x1x1152_S4608)
        shapeCasts_S4608_S8x576 := by
  simp only [hostOps1]; after_results_simp <;> rfl

/-- No two windows read or write the same array. -/
theorem arr_inj : Function.Injective (Pipeline.arrRef spec0) :=
  (by decide : ∀ a b, Pipeline.arrRef spec0 a = Pipeline.arrRef spec0 b → a = b)

/-- The buffers after the lines that follow the kernel. -/
theorem afterTail_eq (c : Dev nD) (b : Ref sig .tc) : Pipeline.afterTail₀ cfgs (dats m) 0 (V0 m) [hostOps1] c b
    = StableHlo.after (hostOps1 (F := Ideal)) (Pipeline.withArrays spec0 c (V0 m c) fun w => (dats m 0 c).arrAt w cfg0.N)
        (Proc.devRef .tc b) := by
  unfold Pipeline.afterTail₀
  rw [List.flatten_cons, List.flatten_nil, List.append_nil]

/-- The run, read: the results and the unchanged arguments. -/
theorem run (ρ : Dev nD → PrngReg) : θ_run defs (onTc (τ := τ) (main (F := Ideal))) ⟨m, fun _ => 0, ρ⟩ fun r => ∀ c : Dev nD,
      r.2.mem ((c.tc : Thread nD τ).loc main_v12) = zqOut m c
      ∧ r.2.mem ((c.tc : Thread nD τ).loc main_v11) = lossOut m c
      ∧ r.2.mem ((c.tc : Thread nD τ).loc main_v10) = idxOut m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨?_, ?_, ?_, ?_, ?_⟩) (run_main m ρ)
  · refine ((h c).2 main_v12 (Pipeline.mem_restRefs_of main_v12 (by decide) (by decide))).trans ?_
    rw [afterTail_eq, tail_v12]
    exact congrArg (fun x : Vec Ideal S4608x256 .f32 => shapeCast S8x576x256 x shapeCasts_S4608x256_S8x576x256)
      ((Pipeline.withArrays_arr spec0 arr_inj c (V0 m c) _ 5).trans (final5 m c))
  · refine ((h c).2 main_v11 (Pipeline.mem_restRefs_of main_v11 (by decide) (by decide))).trans ?_
    rw [afterTail_eq, tail_v11]
    exact congrArg (fun x : Vec Ideal S1x1 .f32 => shapeCast S_ x shapeCasts_S1x1_S_)
      ((Pipeline.withArrays_arr spec0 arr_inj c (V0 m c) _ 7).trans (final7 m c))
  · refine ((h c).2 main_v10 (Pipeline.mem_restRefs_of main_v10 (by decide) (by decide))).trans ?_
    rw [afterTail_eq, tail_v10]
    exact congrArg (fun x : IVec S4x1x1152 32 => shapeCast S8x576 (shapeCast S4608 x shapeCasts_S4x1x1152_S4608) shapeCasts_S4608_S8x576)
      ((Pipeline.withArrays_arr spec0 arr_inj c (V0 m c) _ 6).trans (final6 m c))
  · exact ((h c).2 main_arg0 (Pipeline.mem_restRefs_of main_arg0 (by decide) (by decide))).trans (W_main_arg0 m (dats m) c)
  · exact ((h c).1 1).trans (((dats m 0 c).arrAt_in 1 rfl _).trans ((A_eq m c 1).trans (V_main_arg1 m c)))

end Cert.KernelIdeal.Value
-- ==== Proof.ArgMin.lean ====
/- The host's argmin along the second axis, read at a row: the column of the row's first smallest value. -/
module

public import proofs.«01_k».proof.Proof.Nearest
public import Idealize.ShloMosaic.PureOps.Ideal.Laws
public import Idealize.ShloMosaic.PureOps.Reduce
public import Idealize.ShloMosaic.Lib.Pointwise

@[expose] public section

noncomputable section

namespace Cert.Spec

open Idealize.ShloMosaic

/-- A reduction of each row of pairs by the smaller pair, started above everything: its index is that of the row's first smallest
    value, where each pair's index is its column. -/
theorem argReduce_first {n : Nat} {t u : Shape} (f : EReal × BitVec 32 → EReal × BitVec 32 → EReal × BitVec 32)
    (hf : ∀ a b, f a b = stepPair a b) (x : FVec Ideal ⟨2, ![n, 1024]⟩ .f32) (y : IVec ⟨2, ![n, 1024]⟩ 32)
    (hy : ∀ p e, y (ix2 p e) = BitVec.ofNat 32 e.val) (ix : FVec Ideal u .f32) (iy : IVec u 32) (hix : ∀ i, ix i = (⊤ : EReal))
    (hiy : ∀ i, iy i = 0#32) (h : (⟨2, ![n, 1024]⟩ : Shape).ReducesTo [1] t) (hu : 0 < u.numel) (j : t.Idx) (p : Fin n)
    (hj : (j ⟨0, h.lt_r2_a1_0⟩).val = p.val) :
    (Host.argReduce f x y ix iy h hu j).2 = BitVec.ofNat 32 (first fun e => x (ix2 p e)).val := by
  have hff : f = stepPair := funext fun a => funext fun b => hf a b
  have key : ∀ i : (⟨2, ![n, 1024]⟩ : Shape).Idx, h.drop i = j ↔ ∃ k : Fin 1024, ix2 p k = i := by
    intro i
    rw [h.fiber_r2_a1]
    have : (⟨(j ⟨0, h.lt_r2_a1_0⟩).val, Shape.coordLt (j ⟨0, h.lt_r2_a1_0⟩) h.size_r2_a1_0⟩ : Fin n) = p := Fin.ext hj
    rw [this]
  rw [Ideal.argReduce_eq_reduce2, Host.reduce2_eq_foldl_fiber, hix, hiy, hff]
  let s : Shape := ⟨2, ![n, 1024]⟩
  let L : List (Fin 1024) := ((List.finRange s.numel).filter fun q => h.drop (s.rowMajor.symm q) = j).map fun q => (s.rowMajor.symm q) 1
  have hL : Host.argReduceFiber x y h j = L.map fun e => (x (ix2 p e), BitVec.ofNat 32 e.val) := by
    unfold Host.argReduceFiber
    refine Eq.trans ?_ List.map_map.symm
    refine List.map_congr_left fun q hq => ?_
    obtain ⟨k, hk⟩ := (key _).mp (of_decide_eq_true (List.mem_filter.mp hq).2)
    show (x (s.rowMajor.symm q), y (s.rowMajor.symm q)) = (x (ix2 p ((s.rowMajor.symm q) 1)), BitVec.ofNat 32 ((s.rowMajor.symm q) 1).val)
    rw [show s.rowMajor.symm q = ix2 p k from hk.symm, hy]
    rfl
  rw [hL]
  refine foldl_stepPair_eq (fun e => x (ix2 p e)) L fun e => ?_
  refine List.mem_map.mpr ⟨s.rowMajor (ix2 p e), List.mem_filter.mpr ⟨List.mem_finRange _, decide_eq_true ((key _).mpr ⟨e, ?_⟩)⟩, ?_⟩
  · exact (s.rowMajor.symm_apply_apply (ix2 p e)).symm
  · rw [s.rowMajor.symm_apply_apply (ix2 p e)]
    rfl

/-- The same as an equation of vectors. -/
theorem argReduce_eq {n : Nat} {t u : Shape} (f : EReal × BitVec 32 → EReal × BitVec 32 → EReal × BitVec 32)
    (hf : ∀ a b, f a b = stepPair a b) (x : FVec Ideal ⟨2, ![n, 1024]⟩ .f32) (y : IVec ⟨2, ![n, 1024]⟩ 32)
    (hy : ∀ p e, y (ix2 p e) = BitVec.ofNat 32 e.val) (ix : FVec Ideal u .f32) (iy : IVec u 32) (hix : ∀ i, ix i = (⊤ : EReal))
    (hiy : ∀ i, iy i = 0#32) (h : (⟨2, ![n, 1024]⟩ : Shape).ReducesTo [1] t) (hu : 0 < u.numel) :
    (fun j => (Host.argReduce f x y ix iy h hu j).2) = fun j : t.Idx => BitVec.ofNat 32 (first fun e =>
      x (ix2 ⟨(j ⟨0, h.lt_r2_a1_0⟩).val, Shape.coordLt (j ⟨0, h.lt_r2_a1_0⟩) h.size_r2_a1_0⟩ e)).val :=
  funext fun j => argReduce_first f hf x y hy ix iy hix hiy h hu j _ rfl

end Cert.Spec
-- ==== Proof.RefNearest.lean ====
/- The reference's index and code of a row, read at an index: the index of the nearest code, the first where several are as near,
   and that code. -/
module

public import proofs.«01_k».proof.Proof.RefTerms
public import proofs.«01_k».proof.Proof.Rows
public import proofs.«01_k».proof.Proof.ArgMin
public import Idealize.ShloMosaic.Lib.Pointwise
public import Idealize.ShloMosaic.Lib.Routing.Ops

@[expose] public section

noncomputable section

namespace Cert.ReferenceIdeal.Terms

open Cert.ReferenceIdeal Cert.ReferenceIdeal.Gen Idealize.ShloMosaic Cert.Spec

/-- Row `p` of an array of 4608 rows. -/
def rowAt (x : FVec Ideal S4608x256 .f32) (p : Fin 4608) : Fin 256 → EReal := fun k => x (ix2 p k)
/-- The codes as rows. -/
def codesOf (w : FVec Ideal S1024x256 .f32) (e : Fin 1024) : Fin 256 → EReal := fun k => w (ix2 e k)

/-- The distance of row `p` to code `e`. -/
theorem dist_apply (x : FVec Ideal S4608x256 .f32) (w : FVec Ideal S1024x256 .f32) (p : Fin 4608) (e : Fin 1024) :
    dist x w (ix2 p e) = rowDist (rowAt x p) (codesOf w e) := by
  simp only [dist, rowSq, codeSq]
  pointwise
  rw [lit_two]
  unfold rowDist rowAt codesOf
  rw [← sum_two_mul]

/-- The reduction's step on two pairs is the smaller pair. -/
theorem reducer_eq (a b : EReal × BitVec 32) : reducer_argmin_f32_i32 (F := Ideal) a b = stepPair a b := by
  obtain ⟨x, i⟩ := a
  obtain ⟨y, j⟩ := b
  unfold reducer_argmin_f32_i32 stepPair
  dsimp only
  rw [Ideal.cmpf_def, Ideal.cmpf_def, Ideal.cmpf_def]
  by_cases h1 : x < y <;> by_cases h2 : x = y <;> by_cases h3 : i.toInt < j.toInt <;>
    simp [Ideal.cmp, IntOp.ori, IntOp.andi, IntOp.cmpi, Scalar.select, BitVec.slt, h1, h2, h3]

/-- The row of `w` that an index in range names. -/
theorem take_apply (w : FVec Ideal S1024x256 .f32) (i : IVec S4608 32) (p : Fin 4608) (e : Fin 1024)
    (h : i (ix1 p) = BitVec.ofNat 32 e.val) (k : Fin 256) : take w i (ix2 p k) = w (ix2 e k) := by
  unfold take
  refine Routing.gather_row _ rfl rfl rfl rfl rfl w _ p k e ?_ (by decide)
  pointwise
  rw [h]
  have hn : (IntOp.cmpi .slt (BitVec.ofNat 32 e.val) 0#32 : BitVec 1) = 0#1 := by
    have : ¬((e.val : ℤ) < 0) := by omega
    simp [IntOp.cmpi, BitVec.slt, toInt_ofNat_fin, this]
  rw [hn]
  rfl

/-- The reference's reduction, spelled out. -/
theorem argmin_def (d : FVec Ideal S4608x1024 .f32) : argmin d = fun j =>
    (Host.argReduce (reducer_argmin_f32_i32 (F := Ideal)) d (iotaInDim S4608x1024 32 1) (constant S_ .f32 0x7F800000#32)
      (constantI S_ 32 0#32) reducesTo_S4608x1024_S4608_d1 h_S_ j).2 := rfl

/-- The index of the smallest entry of each row. -/
theorem argmin_eq (d : FVec Ideal S4608x1024 .f32) :
    argmin d = fun j => BitVec.ofNat 32 (first fun e => d (ix2 (⟨(j 0).val, (j 0).isLt⟩ : Fin 4608) e)).val :=
  (argmin_def d).trans (argReduce_eq _ reducer_eq d _ (fun _ _ => rfl) _ _ (fun _ => lit_top) (fun _ => rfl) _ _)

/-- The index of the smallest entry of row `p`. -/
theorem argmin_apply (d : FVec Ideal S4608x1024 .f32) (p : Fin 4608) :
    argmin d (ix1 p) = BitVec.ofNat 32 (first fun e => d (ix2 p e)).val := by
  rw [argmin_eq]
  rfl

/-- The nearest code of row `p`. -/
theorem code_apply (x : FVec Ideal S4608x256 .f32) (w : FVec Ideal S1024x256 .f32) (p : Fin 4608) (k : Fin 256) :
    code x w (ix2 p k) = w (ix2 (near (rowAt x p) (codesOf w)) k) := by
  unfold code
  refine take_apply w _ p _ ?_ k
  rw [argmin_apply]
  unfold near
  simp only [dist_apply]

end Cert.ReferenceIdeal.Terms
-- ==== Proof.RefRead.lean ====
/- The reference's moved rows and mean square, read at an index. -/
module

public import proofs.«01_k».proof.Proof.RefNearest

@[expose] public section

noncomputable section

namespace Cert.ReferenceIdeal.Terms

open Cert.ReferenceIdeal Cert.ReferenceIdeal.Gen Idealize.ShloMosaic Cert.Spec

/-- The norm of row `p`. -/
def rowNorm (d : FVec Ideal S4608x256 .f32) (p : Fin 4608) : EReal := Ideal.sqrt (∑ k : Fin 256, d (ix2 p k) * d (ix2 p k))

/-- A row moved by its difference's norm along the difference's direction, the norm divided out where it is not 0. -/
theorem moved_one (x d : FVec Ideal S4608x256 .f32) (p : Fin 4608) (k : Fin 256) : moved x d (normOrOne d) (ix2 p k)
    = x (ix2 p k) + rowNorm d p * Ideal.div (d (ix2 p k)) (if rowNorm d p = 0 then 1 else rowNorm d p) := by
  simp only [moved, normOrOne, norm, rowSq, rowNorm]
  pointwise

/-- The same with a guard added to the norm instead. -/
theorem moved_add (x d : FVec Ideal S4608x256 .f32) (g : FVec Ideal S4608x1 .f32) (p : Fin 4608) (k : Fin 256) :
    moved x d (addf (norm d) g) (ix2 p k)
      = x (ix2 p k) + rowNorm d p * Ideal.div (d (ix2 p k)) (rowNorm d p + g (ix2 p 0)) := by
  simp only [moved, norm, rowSq, rowNorm]
  pointwise

/-- The mean square is the sum of all squares over their number. -/
theorem meanSq_apply (d : FVec Ideal S4608x256 .f32) (i : S_.Idx) :
    meanSq d i = Ideal.div (∑ p : Fin 4608, ∑ k : Fin 256, d (ix2 p k) * d (ix2 p k)) ((1179648 : ℝ) : EReal) := by
  simp only [meanSq]
  pointwise
  rw [lit_count]

end Cert.ReferenceIdeal.Terms
-- ==== Proof.Finite.lean ====
/- The precondition, read: every entry of both arguments is a real number. -/
module

public import proofs.«01_k».proof.Proof.Gen.Pre_finite
public import proofs.«01_k».proof.Proof.RefRead

@[expose] public section

noncomputable section

namespace Cert.Spec

open Idealize.ShloMosaic Cert.ReferenceIdeal Cert.ReferenceIdeal.Gen Cert.ReferenceIdeal.Terms

/-- An extended real whose absolute value compares below `⊤` is a real. -/
theorem real_of_abs_lt (a : EReal) (h : Ideal.cmp .olt (max a (-a)) (Ideal.ofBits .f32 2139095040#32) = 1#1) : ∃ r : ℝ, a = (r : EReal) := by
  rw [lit_top] at h
  have hlt : max a (-a) < ⊤ := by
    by_contra hn
    simp [Ideal.cmp, hn] at h
  induction a using EReal.rec with
  | bot => simp at hlt
  | top => simp at hlt
  | coe r => exact ⟨r, rfl⟩

/-- Where the precondition holds, both arguments' rows are rows of reals. -/
theorem reals_of_pre (z : FVec Ideal S8x576x256 .f32) (w : FVec Ideal S1024x256 .f32)
    (h : (Cert.Pre_finite.fn (F := Ideal) z w).1 = (fun _ => 1#1) ∧ (Cert.Pre_finite.fn (F := Ideal) z w).2 = (fun _ => 1#1)) :
    ∃ (zr : Fin 4608 → Fin 256 → ℝ) (wr : Fin 1024 → Fin 256 → ℝ),
      (∀ p, rowAt (flat z) p = fun k => (zr p k : EReal)) ∧ codesOf w = fun e k => (wr e k : EReal) := by
  have hz : ∀ i, ∃ r : ℝ, z i = (r : EReal) := fun i => real_of_abs_lt (z i) (congrFun h.1 i)
  have hw : ∀ i, ∃ r : ℝ, w i = (r : EReal) := fun i => real_of_abs_lt (w i) (congrFun h.2 i)
  choose zs hzs using hz
  choose ws hws using hw
  have hx : ∀ j, ∃ i, flat z j = z i := fun j => ⟨_, rfl⟩
  choose g hg using hx
  refine ⟨fun p k => zs (g (ix2 p k)), fun e k => ws (ix2 e k), fun p => funext fun k => ?_, funext fun e => funext fun k => hws _⟩
  exact (hg (ix2 p k)).trans (hzs _)

end Cert.Spec
-- ==== Proof.Equal.lean ====
/- The kernel's results are the reference's, from the same finite arguments. -/
module

public import proofs.«01_k».proof.Proof.KernelRun
public import proofs.«01_k».proof.Proof.Finite

@[expose] public section

noncomputable section

namespace Cert.Spec

open Idealize.ShloMosaic Idealize.ShloMosaic.TcCoe Idealize.SL.Sem Cert.ReferenceIdeal.Terms Cert.KernelIdeal.Value

variable (m : (ℓ : Loc Cert.KernelIdeal.nD Cert.KernelIdeal.τ Cert.KernelIdeal.sig) → Buf (Elt Ideal) ℓ) (c : Dev Cert.KernelIdeal.nD)

/-- The kernel's first argument, -/
def argZ : FVec Ideal Cert.ReferenceIdeal.S8x576x256 .f32 :=
  m ((c.tc : Thread Cert.KernelIdeal.nD Cert.KernelIdeal.τ).loc Cert.KernelIdeal.main_arg0)
/-- and its second. -/
def argW : FVec Ideal Cert.ReferenceIdeal.S1024x256 .f32 :=
  m ((c.tc : Thread Cert.KernelIdeal.nD Cert.KernelIdeal.τ).loc Cert.KernelIdeal.main_arg1)

/-- The code nearest to a row, in the reference's words. -/
def nearRow (z : FVec Ideal Cert.ReferenceIdeal.S8x576x256 .f32) (w : FVec Ideal Cert.ReferenceIdeal.S1024x256 .f32) (p : Fin 4608) :
    Fin 1024 := near (rowAt (flat z) p) (codesOf w)

/-- The kernel's nearest code is the same. -/
theorem nearest_eq (p : Fin 4608) : nearest m c p = nearRow (argZ m c) (argW m c) p := rfl

/-- The kernel's indices as one vector. -/
theorem idxArr_cast : shapeCast Cert.KernelIdeal.S4608 (idxArr m c) Cert.KernelIdeal.Gen.shapeCasts_S4x1x1152_S4608
    = fun j => BitVec.ofNat 32 (nearest m c (j 0)).val := by
  funext j
  have hj : (j 0 : Nat) < 4608 := (j 0).isLt
  rw [shapeCast_apply (idxArr m c) _ j (ix3 (⟨(j 0 : Nat) / 1152, by omega⟩ : Fin 4) (0 : Fin 1) (⟨(j 0 : Nat) % 1152, by omega⟩ : Fin 1152))
    (by rw [Shape.rowMajor_val_three, Shape.rowMajor_val_one]; show ((j 0 : Nat) / 1152 * 1 + 0) * 1152 + (j 0 : Nat) % 1152 = (j 0 : Nat); omega)]
  show BitVec.ofNat 32 (nearest m c _).val = _
  refine congrArg (fun r : Fin 4608 => BitVec.ofNat 32 (nearest m c r).val) (Fin.ext ?_)
  show 1152 * ((j 0 : Nat) / 1152) + (j 0 : Nat) % 1152 = (j 0 : Nat)
  omega

/-- The reference's indices as one vector. -/
theorem argmin_cast (z : FVec Ideal Cert.ReferenceIdeal.S8x576x256 .f32) (w : FVec Ideal Cert.ReferenceIdeal.S1024x256 .f32) :
    argmin (dist (flat z) w) = fun j => BitVec.ofNat 32 (nearRow z w (j 0)).val := by
  refine (argmin_eq _).trans (funext fun j => ?_)
  refine congrArg (fun f => BitVec.ofNat 32 (first f).val) (funext fun e => ?_)
  exact dist_apply (flat z) w (j 0) e

/-- Result 3: the indices are the same, whatever the arguments. -/
theorem idx_eq : idxOut m c = out2 (argZ m c) (argW m c) := by
  have e : shapeCast Cert.KernelIdeal.S4608 (idxArr m c) Cert.KernelIdeal.Gen.shapeCasts_S4x1x1152_S4608
      = argmin (dist (flat (argZ m c)) (argW m c)) := (idxArr_cast m c).trans (argmin_cast _ _).symm
  unfold idxOut
  rw [e]
  rfl

/-- The difference of each row's code and the row. -/
def diff (z : FVec Ideal Cert.ReferenceIdeal.S8x576x256 .f32) (w : FVec Ideal Cert.ReferenceIdeal.S1024x256 .f32) :
    FVec Ideal Cert.ReferenceIdeal.S4608x256 .f32 := subf (code (flat z) w) (flat z)

section Real
variable {z : FVec Ideal Cert.ReferenceIdeal.S8x576x256 .f32} {w : FVec Ideal Cert.ReferenceIdeal.S1024x256 .f32}
  {zr : Fin 4608 → Fin 256 → ℝ} {wr : Fin 1024 → Fin 256 → ℝ}
  (hz : ∀ p, rowAt (flat z) p = fun k => (zr p k : EReal)) (hw : codesOf w = fun e k => (wr e k : EReal))
include hz hw

/-- The reference's difference, in reals. -/
theorem diff_apply (p : Fin 4608) (k : Fin 256) : diff z w (ix2 p k) = (wr (nearRow z w p) k : EReal) - (zr p k : EReal) := by
  show code (flat z) w (ix2 p k) - flat z (ix2 p k) = _
  rw [code_apply, show flat z (ix2 p k) = (zr p k : EReal) from congrFun (hz p) k]
  rw [show w (ix2 (near (rowAt (flat z) p) (codesOf w)) k) = (wr (nearRow z w p) k : EReal) from congrFun (congrFun hw (nearRow z w p)) k]

/-- Its norm, -/
theorem norm_apply (p : Fin 4608) : rowNorm (diff z w) p = (Real.sqrt (gap (zr p) (wr (nearRow z w p))) : EReal) := by
  unfold rowNorm
  rw [Finset.sum_congr rfl fun k _ => by rw [diff_apply hz hw p k], sum_sq_coe, sqrt_coe (gap_nonneg _ _)]

/-- and its sum of squares. -/
theorem sumSq_apply : (∑ p : Fin 4608, ∑ k : Fin 256, diff z w (ix2 p k) * diff z w (ix2 p k))
    = ((∑ p, gap (zr p) (wr (nearRow z w p)) : ℝ) : EReal) := by
  rw [coe_sum]
  refine Finset.sum_congr rfl fun p _ => ?_
  rw [Finset.sum_congr rfl fun k _ => by rw [diff_apply hz hw p k], sum_sq_coe]

/-- The moved row is the code. -/
theorem moved_apply (p : Fin 4608) (k : Fin 256) :
    moved (flat z) (diff z w) (normOrOne (diff z w)) (ix2 p k) = w (ix2 (nearRow z w p) k) := by
  rw [moved_one, norm_apply hz hw, diff_apply hz hw, show flat z (ix2 p k) = (zr p k : EReal) from congrFun (hz p) k, step_eq]
  exact (congrFun (congrFun hw (nearRow z w p)) k).symm

/-- With the guard added the moved row ends within the guard of the code. -/
theorem moved_near (g : FVec Ideal Cert.ReferenceIdeal.S4608x1 .f32) {ε : ℝ} (hε : 0 < ε) (hg : ∀ i, g i = (ε : EReal)) (p : Fin 4608)
    (k : Fin 256) :
    max (w (ix2 (nearRow z w p) k) - moved (flat z) (diff z w) (addf (norm (diff z w)) g) (ix2 p k))
        (-(w (ix2 (nearRow z w p) k) - moved (flat z) (diff z w) (addf (norm (diff z w)) g) (ix2 p k))) ≤ (ε : EReal) := by
  rw [moved_add, hg, norm_apply hz hw, diff_apply hz hw, show flat z (ix2 p k) = (zr p k : EReal) from congrFun (hz p) k,
    show w (ix2 (nearRow z w p) k) = (wr (nearRow z w p) k : EReal) from congrFun (congrFun hw (nearRow z w p)) k]
  exact step_near hε (zr p) (wr (nearRow z w p)) k

/-- The mean square of the difference taken the other way round is the same. -/
theorem meanSq_swap (i : Cert.ReferenceIdeal.S_.Idx) : meanSq (subf (flat z) (code (flat z) w)) i = meanSq (diff z w) i := by
  rw [meanSq_apply, meanSq_apply]
  congr 1
  refine Finset.sum_congr rfl fun p _ => Finset.sum_congr rfl fun k _ => ?_
  have h1 : subf (flat z) (code (flat z) w) (ix2 p k) = (zr p k : EReal) - (wr (nearRow z w p) k : EReal) := by
    show flat z (ix2 p k) - code (flat z) w (ix2 p k) = _
    rw [code_apply, show flat z (ix2 p k) = (zr p k : EReal) from congrFun (hz p) k]
    rw [show w (ix2 (near (rowAt (flat z) p) (codesOf w)) k) = (wr (nearRow z w p) k : EReal) from congrFun (congrFun hw (nearRow z w p)) k]
  rw [h1, diff_apply hz hw, ← EReal.coe_sub, ← EReal.coe_sub, ← EReal.coe_mul, ← EReal.coe_mul]
  congr 1
  ring

/-- The reference's loss, in reals. -/
theorem out1_apply (i : Cert.ReferenceIdeal.S_.Idx) : out1 z w i
    = Ideal.div ((∑ p, gap (zr p) (wr (nearRow z w p)) : ℝ) : EReal) ((1179648 : ℝ) : EReal)
      + ((1 / 4 : ℝ) : EReal) * Ideal.div ((∑ p, gap (zr p) (wr (nearRow z w p)) : ℝ) : EReal) ((1179648 : ℝ) : EReal) := by
  show meanSq (diff z w) i + Ideal.ofBits .f32 1048576000#32 * meanSq (subf (flat z) (code (flat z) w)) i = _
  rw [meanSq_swap hz hw, meanSq_apply, sumSq_apply hz hw, lit_quarter]

end Real

section Results
variable {zr : Fin 4608 → Fin 256 → ℝ} {wr : Fin 1024 → Fin 256 → ℝ}
  (hz : ∀ p, rowAt (flat (argZ m c)) p = fun k => (zr p k : EReal)) (hw : codesOf (argW m c) = fun e k => (wr e k : EReal))
include hz hw

/-- Result 1: the quantised rows are the same. -/
theorem zq_eq : zqOut m c = out0 (argZ m c) (argW m c) := by
  have e : zqArr m c = moved (flat (argZ m c)) (diff (argZ m c) (argW m c)) (normOrOne (diff (argZ m c) (argW m c))) := by
    funext i
    rw [show i = ix2 (i 0) (i 1) from eq_ix2 i]
    exact (moved_apply hz hw (i 0) (i 1)).symm
  unfold zqOut
  rw [e]
  rfl

/-- The square of a row's distance to its code, in reals. -/
theorem mindist_sq (p : Fin 4608) : mindist m c p * mindist m c p = (gap (zr p) (wr (nearRow (argZ m c) (argW m c) p)) : EReal) := by
  have h1 : mindist m c p = rowDist (rowAt (flat (argZ m c)) p) (codesOf (argW m c) (nearRow (argZ m c) (argW m c) p)) := rfl
  rw [h1, hz p, hw, dist_sq_coe]

/-- What a grid point adds to the loss, in reals. -/
theorem part_eq (t : Fin Cert.KernelIdeal.cfg0.N) : part m c t
    = ((∑ p : Fin 1152, gap (zr (rowOf t p)) (wr (nearRow (argZ m c) (argW m c) (rowOf t p))) : ℝ) : EReal) * ((5 / 4718592 : ℝ) : EReal) := by
  unfold part
  rw [Finset.sum_congr rfl fun p _ => mindist_sq m c hz hw (rowOf t p), coe_sum]

/-- Result 2: the loss is the same. -/
theorem loss_out_eq : lossOut m c = out1 (argZ m c) (argW m c) := by
  funext i
  rw [out1_apply hz hw i]
  have hN : Cert.KernelIdeal.cfg0.N = 4 := Cert.KernelIdeal.Gen.N_0
  show chain m c 3 _ = _
  simp only [chain]
  rw [part_eq m c hz hw, part_eq m c hz hw, part_eq m c hz hw, part_eq m c hz hw]
  exact loss_eq (fun p => gap (zr p) (wr (nearRow (argZ m c) (argW m c) p)))
    (fun t => ∑ p : Fin 1152, gap (zr (rowOf ⟨t.val, hN.symm ▸ t.isLt⟩ p)) (wr (nearRow (argZ m c) (argW m c) (rowOf ⟨t.val, hN.symm ▸ t.isLt⟩ p))))
    (fun t => rfl)

end Results

end Cert.Spec
-- ==== Proof.Certify.lean ====
/- The two value claims: the kernel's results are the reference's, and its quantised rows lie within the guard of the rows that the
   reference's guarded division gives. -/
module

public import proofs.«01_k».proof.Defs
public import proofs.«01_k».proof.Proof.Equal
public import proofs.«01_k».proof.Proof.RefRun
public import proofs.«01_k».proof.Proof.Gen.Post_near_reference

@[expose] public section

noncomputable section

namespace Cert.Spec

open Idealize.ShloMosaic Idealize.ShloMosaic.TcCoe Idealize.SL.Sem Cert.ReferenceIdeal.Terms Cert.KernelIdeal.Value

/-- From finite arguments the kernel and the reference end with equal results. -/
theorem algebraic_claim : Cert.algebraic_KernelIdeal_ReferenceIdeal_pre_finite := by
  intro m g m' g' hpre hargs
  refine ⟨fun c => zqOut m c, fun c => lossOut m c, fun c => idxOut m c, Cert.KernelIdeal.Value.run m g, ?_⟩
  refine (θ_run _ _ _).mono (fun r h c => ?_) (Cert.ReferenceIdeal.Value.run m' g')
  obtain ⟨h1, h2, h3, h4, h5⟩ := h c
  obtain ⟨zr, wr, hz, hw⟩ := reals_of_pre (argZ m c) (argW m c) (hpre c)
  rw [(hargs c).1, (hargs c).2] at h1 h2 h3
  exact ⟨h1.trans (zq_eq m c hz hw).symm, h2.trans (loss_out_eq m c hz hw).symm, h3.trans (idx_eq m c).symm, h4, h5⟩

/-- The guard as a column. -/
def guardCol : FVec Ideal Cert.ReferenceIdeal.S4608x1 .f32 :=
  broadcastInDim Cert.ReferenceIdeal.S4608x1 ![] Cert.ReferenceIdeal.Gen.bcast_S_S4608x1
    (constant Cert.ReferenceIdeal.S_ .f32 0x322BCC77#32)

/-- The rows the reference gives with its guard, in the input's shape. -/
def guarded (z : FVec Ideal Cert.ReferenceIdeal.S8x576x256 .f32) (w : FVec Ideal Cert.ReferenceIdeal.S1024x256 .f32) :
    FVec Ideal Cert.ReferenceIdeal.S8x576x256 .f32 :=
  shapeCast Cert.ReferenceIdeal.S8x576x256 (moved (flat z) (diff z w) (addf (norm (diff z w)) guardCol))
    Cert.ReferenceIdeal.Gen.shapeCasts_S4608x256_S8x576x256

/-- The postcondition says each entry of the first result is within the guard of those rows. -/
theorem post_eq (z : FVec Ideal Cert.ReferenceIdeal.S8x576x256 .f32) (w : FVec Ideal Cert.ReferenceIdeal.S1024x256 .f32)
    (zq : FVec Ideal Cert.ReferenceIdeal.S8x576x256 .f32) (loss : FVec Ideal Cert.ReferenceIdeal.S_ .f32)
    (idx : IVec Cert.ReferenceIdeal.S8x576 32) : Cert.Post_near_reference.fn (F := Ideal) z w zq loss idx
      = fun i => Ideal.cmp .ole (max (zq i - guarded z w i) (-(zq i - guarded z w i))) (Ideal.ofBits .f32 841731191#32) := rfl

/-- The kernel's quantised rows satisfy it, from finite arguments. -/
theorem post_holds (m : (ℓ : Loc Cert.KernelIdeal.nD Cert.KernelIdeal.τ Cert.KernelIdeal.sig) → Buf (Elt Ideal) ℓ)
    (c : Dev Cert.KernelIdeal.nD) (loss : FVec Ideal Cert.ReferenceIdeal.S_ .f32) (idx : IVec Cert.ReferenceIdeal.S8x576 32)
    {zr : Fin 4608 → Fin 256 → ℝ} {wr : Fin 1024 → Fin 256 → ℝ}
    (hz : ∀ p, rowAt (flat (argZ m c)) p = fun k => (zr p k : EReal)) (hw : codesOf (argW m c) = fun e k => (wr e k : EReal)) :
    Cert.Post_near_reference.fn (F := Ideal) (argZ m c) (argW m c) (zqOut m c) loss idx = fun _ => 1#1 := by
  rw [post_eq]
  funext i
  obtain ⟨ε, hε, hlit⟩ := lit_guard
  have key : ∀ j : Cert.ReferenceIdeal.S4608x256.Idx,
      max (zqArr m c j - moved (flat (argZ m c)) (diff (argZ m c) (argW m c)) (addf (norm (diff (argZ m c) (argW m c))) guardCol) j)
        (-(zqArr m c j - moved (flat (argZ m c)) (diff (argZ m c) (argW m c)) (addf (norm (diff (argZ m c) (argW m c))) guardCol) j))
        ≤ (ε : EReal) := by
    intro j
    rw [show j = ix2 (j 0) (j 1) from eq_ix2 j]
    exact moved_near hz hw guardCol hε (fun _ => hlit) (j 0) (j 1)
  have hle : max (zqOut m c i - guarded (argZ m c) (argW m c) i) (-(zqOut m c i - guarded (argZ m c) (argW m c) i))
      ≤ Ideal.ofBits .f32 841731191#32 := by
    rw [hlit]
    exact key _
  show BitVec.ofBool (decide (_ ≤ _)) = 1#1
  rw [decide_eq_true hle]
  rfl

/-- From finite arguments every run of the kernel ends with its quantised rows within the guard of the guarded reference's. -/
theorem holds_claim : Cert.holds_KernelIdeal_near_reference_pre_finite := by
  intro m g hpre
  refine (θ_run _ _ _).mono (fun r h c => ?_) (Cert.KernelIdeal.Value.run m g)
  obtain ⟨h1, h2, h3, h4, h5⟩ := h c
  obtain ⟨zr, wr, hz, hw⟩ := reals_of_pre (argZ m c) (argW m c) (hpre c)
  refine ⟨h4, h5, ?_⟩
  rw [h1]
  exact post_holds m c _ _ hz hw

end Cert.Spec
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.RefRun
public import proofs.«01_k».proof.Proof.Gen.Pre_finite
public import proofs.«01_k».proof.Proof.Gen.Post_near_reference
public import proofs.«01_k».proof.Proof.Certify
public import Idealize.ShloMosaic.Adequacy
public import Idealize.ShloMosaic.Init

@[expose] public section

noncomputable section

namespace Cert.Proof

open Idealize.ShloMosaic Idealize.SL.Sem

/-- Everything certified: every run of the three programs terminates with its arguments unchanged and its counters at zero, the one
    named constant is the real number it stands for, the kernel's results from finite arguments are the reference's, and its
    quantised rows are within the guard of the guarded reference's. -/
theorem claim : Cert.Claim :=
  ⟨Cert.Kernel.Gen.facts, Cert.KernelIdeal.Gen.facts, Cert.ReferenceIdeal.Gen.facts, Cert.Pre_finite.Gen.facts,
    Cert.Post_near_reference.Gen.facts,
    fun m g _ => Cert.Kernel.Gen.frame m g, fun m g _ => Cert.KernelIdeal.Gen.frame m g, fun m g _ => Cert.KernelIdeal.Gen.frame m g,
    fun m g _ => Cert.ReferenceIdeal.Value.frame m g, fun m g _ => Cert.ReferenceIdeal.Value.frame m g,
    IdealRules.named_const.statement Cert.KernelIdeal.κ "scale" .f32 0x358E38E4#32 _ rfl,
    Cert.Spec.algebraic_claim, Cert.Spec.holds_claim⟩

end Cert.Proof

end
